-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "score_scale" .f32 0x3D8293EE#32 ((((Real.sqrt 512) * (Real.log 2))⁻¹ : ℝ) : EReal)

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S8x1024x3 : Shape := ⟨3, ![8, 1024, 3]⟩
abbrev S8x1024x128 : Shape := ⟨3, ![8, 1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S512x512 : Shape := ⟨2, ![512, 512]⟩
abbrev S3x512 : Shape := ⟨2, ![3, 512]⟩
abbrev S_ : Shape := ⟨0, ![]⟩

class Facts : Prop where
  bcast_S_S8x1024x3 : S_.BroadcastsInDim S8x1024x3 (![] : Fin 0 → Fin S8x1024x3.rank)
  bcast_S_S8x1024x128 : S_.BroadcastsInDim S8x1024x128 (![] : Fin 0 → Fin S8x1024x128.rank)
  bcast_S_S128x512 : S_.BroadcastsInDim S128x512 (![] : Fin 0 → Fin S128x512.rank)
  bcast_S_S512x512 : S_.BroadcastsInDim S512x512 (![] : Fin 0 → Fin S512x512.rank)
  bcast_S_S512 : S_.BroadcastsInDim S512 (![] : Fin 0 → Fin S512.rank)
  bcast_S_S3x512 : S_.BroadcastsInDim S3x512 (![] : Fin 0 → Fin S3x512.rank)
  bcast_S_S128 : S_.BroadcastsInDim S128 (![] : Fin 0 → Fin S128.rank)

variable [Facts]

def fn_part2 {F : FTy → Type} [FloatOps F] (main_arg6 : FVec F S128 .f32) (main_arg8 : FVec F S512 .f32) (main_arg12 : FVec F S512 .f32) (main_arg14 : FVec F S512 .f32) (main_v2 : IVec S8x1024x3 1) (main_v5 : IVec S8x1024x128 1) (main_v8 : IVec S128x512 1) (main_v11 : IVec S512x512 1) (main_v14 : IVec S512x512 1) (main_v17 : IVec S512 1) (main_v20 : IVec S3x512 1) (main_v23 : IVec S512x512 1) (main_v26 : IVec S512x512 1) (main_v29 : IVec S512x512 1) (main_v32 : IVec S512x512 1) (main_v34 : IVec S512 1) (main_cst_11 : FVec F S_ .f32) : IVec S8x1024x3 1 × IVec S8x1024x128 1 × IVec S128x512 1 × IVec S512x512 1 × IVec S512x512 1 × IVec S512 1 × IVec S3x512 1 × IVec S512x512 1 × IVec S512x512 1 × IVec S512x512 1 × IVec S512x512 1 × IVec S512 1 × IVec S128 1 × IVec S512 1 × IVec S512 1 × IVec S512 1 :=
  let main_v35 : FVec F S128 .f32 := broadcastInDim S128 ![] bcast_S_S128 main_cst_11
  let main_v36 : IVec S128 1 := cmpf .oeq main_arg6 main_v35
  let main_cst_12 : FVec F S_ .f32 := constant S_ .f32 0x00000000#32
  let main_v37 : FVec F S512 .f32 := broadcastInDim S512 ![] bcast_S_S512 main_cst_12
  let main_v38 : IVec S512 1 := cmpf .oeq main_arg8 main_v37
  let main_cst_13 : FVec F S_ .f32 := constant S_ .f32 0x00000000#32
  let main_v39 : FVec F S512 .f32 := broadcastInDim S512 ![] bcast_S_S512 main_cst_13
  let main_v40 : IVec S512 1 := cmpf .oeq main_arg12 main_v39
  let main_cst_14 : FVec F S_ .f32 := constant S_ .f32 0x00000000#32
  let main_v41 : FVec F S512 .f32 := broadcastInDim S512 ![] bcast_S_S512 main_cst_14
  let main_v42 : IVec S512 1 := cmpf .oeq main_arg14 main_v41
  (main_v2, main_v5, main_v8, main_v11, main_v14, main_v17, main_v20, main_v23, main_v26, main_v29, main_v32, main_v34, main_v36, main_v38, main_v40, main_v42)

def fn_part1 {F : FTy → Type} [FloatOps F] (main_arg4 : FVec F S512 .f32) (main_arg6 : FVec F S128 .f32) (main_arg8 : FVec F S512 .f32) (main_arg11 : FVec F S3x512 .f32) (main_arg12 : FVec F S512 .f32) (main_arg13 : FVec F S512x512 .f32) (main_arg14 : FVec F S512 .f32) (main_arg15 : FVec F S512x512 .f32) (main_arg16 : FVec F S512x512 .f32) (main_arg17 : FVec F S512x512 .f32) (main_v2 : IVec S8x1024x3 1) (main_v5 : IVec S8x1024x128 1) (main_v8 : IVec S128x512 1) (main_v11 : IVec S512x512 1) (main_v14 : IVec S512x512 1) (main_v17 : IVec S512 1) : IVec S8x1024x3 1 × IVec S8x1024x128 1 × IVec S128x512 1 × IVec S512x512 1 × IVec S512x512 1 × IVec S512 1 × IVec S3x512 1 × IVec S512x512 1 × IVec S512x512 1 × IVec S512x512 1 × IVec S512x512 1 × IVec S512 1 × IVec S128 1 × IVec S512 1 × IVec S512 1 × IVec S512 1 :=
  let main_v18 : FVec F S3x512 .f32 := Host.absf main_arg11
  let main_cst_5 : FVec F S_ .f32 := constant S_ .f32 0x7F800000#32
  let main_v19 : FVec F S3x512 .f32 := broadcastInDim S3x512 ![] bcast_S_S3x512 main_cst_5
  let main_v20 : IVec S3x512 1 := cmpf .olt main_v18 main_v19
  let main_v21 : FVec F S512x512 .f32 := Host.absf main_arg13
  let main_cst_6 : FVec F S_ .f32 := constant S_ .f32 0x7F800000#32
  let main_v22 : FVec F S512x512 .f32 := broadcastInDim S512x512 ![] bcast_S_S512x512 main_cst_6
  let main_v23 : IVec S512x512 1 := cmpf .olt main_v21 main_v22
  let main_v24 : FVec F S512x512 .f32 := Host.absf main_arg15
  let main_cst_7 : FVec F S_ .f32 := constant S_ .f32 0x7F800000#32
  let main_v25 : FVec F S512x512 .f32 := broadcastInDim S512x512 ![] bcast_S_S512x512 main_cst_7
  let main_v26 : IVec S512x512 1 := cmpf .olt main_v24 main_v25
  let main_v27 : FVec F S512x512 .f32 := Host.absf main_arg16
  let main_cst_8 : FVec F S_ .f32 := constant S_ .f32 0x7F800000#32
  let main_v28 : FVec F S512x512 .f32 := broadcastInDim S512x512 ![] bcast_S_S512x512 main_cst_8
  let main_v29 : IVec S512x512 1 := cmpf .olt main_v27 main_v28
  let main_v30 : FVec F S512x512 .f32 := Host.absf main_arg17
  let main_cst_9 : FVec F S_ .f32 := constant S_ .f32 0x7F800000#32
  let main_v31 : FVec F S512x512 .f32 := broadcastInDim S512x512 ![] bcast_S_S512x512 main_cst_9
  let main_v32 : IVec S512x512 1 := cmpf .olt main_v30 main_v31
  let main_cst_10 : FVec F S_ .f32 := constant S_ .f32 0x00000000#32
  let main_v33 : FVec F S512 .f32 := broadcastInDim S512 ![] bcast_S_S512 main_cst_10
  let main_v34 : IVec S512 1 := cmpf .oeq main_arg4 main_v33
  let main_cst_11 : FVec F S_ .f32 := constant S_ .f32 0x00000000#32
  fn_part2 (F := F) main_arg6 main_arg8 main_arg12 main_arg14 main_v2 main_v5 main_v8 main_v11 main_v14 main_v17 main_v20 main_v23 main_v26 main_v29 main_v32 main_v34 main_cst_11

def fn {F : FTy → Type} [FloatOps F] (main_arg0 : FVec F S8x1024x3 .f32) (main_arg1 : FVec F S8x1024x3 .f32) (main_arg2 : FVec F S8x1024x128 .f32) (main_arg3 : FVec F S128x512 .f32) (main_arg4 : FVec F S512 .f32) (main_arg5 : FVec F S512x128 .f32) (main_arg6 : FVec F S128 .f32) (main_arg7 : FVec F S512x512 .f32) (main_arg8 : FVec F S512 .f32) (main_arg9 : FVec F S512x512 .f32) (main_arg10 : FVec F S512 .f32) (main_arg11 : FVec F S3x512 .f32) (main_arg12 : FVec F S512 .f32) (main_arg13 : FVec F S512x512 .f32) (main_arg14 : FVec F S512 .f32) (main_arg15 : FVec F S512x512 .f32) (main_arg16 : FVec F S512x512 .f32) (main_arg17 : FVec F S512x512 .f32) : IVec S8x1024x3 1 × IVec S8x1024x128 1 × IVec S128x512 1 × IVec S512x512 1 × IVec S512x512 1 × IVec S512 1 × IVec S3x512 1 × IVec S512x512 1 × IVec S512x512 1 × IVec S512x512 1 × IVec S512x512 1 × IVec S512 1 × IVec S128 1 × IVec S512 1 × IVec S512 1 × IVec S512 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_v3 : FVec F S8x1024x128 .f32 := Host.absf main_arg2
  let main_cst_0 : FVec F S_ .f32 := constant S_ .f32 0x7F800000#32
  let main_v4 : FVec F S8x1024x128 .f32 := broadcastInDim S8x1024x128 ![] bcast_S_S8x1024x128 main_cst_0
  let main_v5 : IVec S8x1024x128 1 := cmpf .olt main_v3 main_v4
  let main_v6 : FVec F S128x512 .f32 := Host.absf main_arg3
  let main_cst_1 : FVec F S_ .f32 := constant S_ .f32 0x7F800000#32
  let main_v7 : FVec F S128x512 .f32 := broadcastInDim S128x512 ![] bcast_S_S128x512 main_cst_1
  let main_v8 : IVec S128x512 1 := cmpf .olt main_v6 main_v7
  let main_v9 : FVec F S512x512 .f32 := Host.absf main_arg7
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512x512 .f32 := Host.absf main_arg9
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg10
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg4 main_arg6 main_arg8 main_arg11 main_arg12 main_arg13 main_arg14 main_arg15 main_arg16 main_arg17 main_v2 main_v5 main_v8 main_v11 main_v14 main_v17
-- ==== Kernel.lean ====
abbrev S8x1024x3 : Shape := ⟨3, ![8, 1024, 3]⟩
abbrev S8x1024x128 : Shape := ⟨3, ![8, 1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S512x512 : Shape := ⟨2, ![512, 512]⟩
abbrev S3x512 : Shape := ⟨2, ![3, 512]⟩
abbrev S512x1024 : Shape := ⟨2, ![512, 1024]⟩
abbrev S8x1024x512 : Shape := ⟨3, ![8, 1024, 512]⟩
abbrev S128x1024 : Shape := ⟨2, ![128, 1024]⟩
abbrev S8x1024x16 : Shape := ⟨3, ![8, 1024, 16]⟩
abbrev S_ : Shape := ⟨0, ![]⟩
abbrev S8x1024x8 : Shape := ⟨3, ![8, 1024, 8]⟩
abbrev S8x1024x136 : Shape := ⟨3, ![8, 1024, 136]⟩
abbrev S8x512 : Shape := ⟨2, ![8, 512]⟩
abbrev S128x128 : Shape := ⟨2, ![128, 128]⟩
abbrev S128x16x128 : Shape := ⟨3, ![128, 16, 128]⟩
abbrev S2048x128 : Shape := ⟨2, ![2048, 128]⟩
abbrev S128x2048 : Shape := ⟨2, ![128, 2048]⟩
abbrev S8x1024x16x512 : Shape := ⟨4, ![8, 1024, 16, 512]⟩
abbrev S1x1024x128 : Shape := ⟨3, ![1, 1024, 128]⟩
abbrev S1x1024x512 : Shape := ⟨3, ![1, 1024, 512]⟩
abbrev S1024x128 : Shape := ⟨2, ![1024, 128]⟩
abbrev S1024x512 : Shape := ⟨2, ![1024, 512]⟩
abbrev S1x1024x3 : Shape := ⟨3, ![1, 1024, 3]⟩
abbrev S1x1024x16 : Shape := ⟨3, ![1, 1024, 16]⟩
abbrev S1024x3 : Shape := ⟨2, ![1024, 3]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S1024x16 : Shape := ⟨2, ![1024, 16]⟩
abbrev S1x1024x136 : Shape := ⟨3, ![1, 1024, 136]⟩
abbrev S1x128x512 : Shape := ⟨3, ![1, 128, 512]⟩
abbrev S1x128x16 : Shape := ⟨3, ![1, 128, 16]⟩
abbrev S1x128x16x512 : Shape := ⟨4, ![1, 128, 16, 512]⟩
abbrev S1x128x128 : Shape := ⟨3, ![1, 128, 128]⟩
abbrev S1024x136 : Shape := ⟨2, ![1024, 136]⟩
abbrev S128x16 : Shape := ⟨2, ![128, 16]⟩
abbrev S128x16x1 : Shape := ⟨3, ![128, 16, 1]⟩
abbrev S128x16x1024 : Shape := ⟨3, ![128, 16, 1024]⟩
abbrev S2048x1024 : Shape := ⟨2, ![2048, 1024]⟩
abbrev S2048x136 : Shape := ⟨2, ![2048, 136]⟩
abbrev S2048x8 : Shape := ⟨2, ![2048, 8]⟩
abbrev S1x128x8 : Shape := ⟨3, ![1, 128, 8]⟩
abbrev S128x8 : Shape := ⟨2, ![128, 8]⟩
abbrev S2048x512 : Shape := ⟨2, ![2048, 512]⟩
abbrev S128x16x512 : Shape := ⟨3, ![128, 16, 512]⟩
abbrev S128x1x512 : Shape := ⟨3, ![128, 1, 512]⟩

abbrev nBuf : Space → Nat
  | .hbm => 49
  | .vmem => 34
  | .smem => 0
  | _ => 0

abbrev bufTy : (tb : Table) → Fin (tcTables nBuf tb) → BufTy
  | .hbm, ⟨0, _⟩ => ⟨S8x1024x3, .f32⟩
  | .hbm, ⟨1, _⟩ => ⟨S8x1024x3, .f32⟩
  | .hbm, ⟨2, _⟩ => ⟨S8x1024x128, .f32⟩
  | .hbm, ⟨3, _⟩ => ⟨S128x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S3x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x1024, .f32⟩
  | .hbm, ⟨19, _⟩ => ⟨S8x1024x512, .bf16⟩
  | .hbm, ⟨20, _⟩ => ⟨S128x1024, .bf16⟩
  | .hbm, ⟨21, _⟩ => ⟨S512x512, .bf16⟩
  | .hbm, ⟨22, _⟩ => ⟨S8x1024x16, .i32⟩
  | .hbm, ⟨23, _⟩ => ⟨S_, .i32⟩
  | .hbm, ⟨24, _⟩ => ⟨S_, .f32⟩
  | .hbm, ⟨25, _⟩ => ⟨S8x1024x8, .f32⟩
  | .hbm, ⟨26, _⟩ => ⟨S8x1024x136, .f32⟩
  | .hbm, ⟨27, _⟩ => ⟨S8x1024x136, .bf16⟩
  | .hbm, ⟨28, _⟩ => ⟨S_, .i32⟩
  | .hbm, ⟨29, _⟩ => ⟨S_, .f32⟩
  | .hbm, ⟨30, _⟩ => ⟨S8x512, .f32⟩
  | .hbm, ⟨31, _⟩ => ⟨S8x512, .bf16⟩
  | .hbm, ⟨32, _⟩ => ⟨S512x512, .bf16⟩
  | .hbm, ⟨33, _⟩ => ⟨S512x512, .bf16⟩
  | .hbm, ⟨34, _⟩ => ⟨S512x128, .bf16⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i1⟩
  | .hbm, ⟨41, _⟩ => ⟨S128x128, .f32⟩
  | .hbm, ⟨42, _⟩ => ⟨S128x16x128, .f32⟩
  | .hbm, ⟨43, _⟩ => ⟨S2048x128, .f32⟩
  | .hbm, ⟨44, _⟩ => ⟨S2048x128, .bf16⟩
  | .hbm, ⟨45, _⟩ => ⟨S128x2048, .f32⟩
  | .hbm, ⟨46, _⟩ => ⟨S128x2048, .bf16⟩
  | .hbm, ⟨47, _⟩ => ⟨S8x1024x16x512, .f32⟩
  | .hbm, ⟨48, _⟩ => ⟨S8x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S128x512, .f32⟩
  | .local _ .vmem, ⟨3, _⟩ => ⟨S512x512, .f32⟩
  | .local _ .vmem, ⟨4, _⟩ => ⟨S512x1024, .f32⟩
  | .local _ .vmem, ⟨5, _⟩ => ⟨S512x512, .f32⟩
  | .local _ .vmem, ⟨6, _⟩ => ⟨S1x1024x512, .bf16⟩
  | .local _ .vmem, ⟨7, _⟩ => ⟨S1x1024x512, .bf16⟩
  | .local _ .vmem, ⟨8, _⟩ => ⟨S128x1024, .bf16⟩
  | .local _ .vmem, ⟨9, _⟩ => ⟨S512x512, .bf16⟩
  | .local _ .vmem, ⟨10, _⟩ => ⟨S1x1024x3, .f32⟩
  | .local _ .vmem, ⟨11, _⟩ => ⟨S1x1024x3, .f32⟩
  | .local _ .vmem, ⟨12, _⟩ => ⟨S1x1024x16, .i32⟩
  | .local _ .vmem, ⟨13, _⟩ => ⟨S1x1024x16, .i32⟩
  | .local _ .vmem, ⟨14, _⟩ => ⟨S1x1024x128, .f32⟩
  | .local _ .vmem, ⟨15, _⟩ => ⟨S1x1024x128, .f32⟩
  | .local _ .vmem, ⟨16, _⟩ => ⟨S1x1024x136, .bf16⟩
  | .local _ .vmem, ⟨17, _⟩ => ⟨S1x1024x136, .bf16⟩
  | .local _ .vmem, ⟨18, _⟩ => ⟨S1x128x512, .bf16⟩
  | .local _ .vmem, ⟨19, _⟩ => ⟨S1x128x512, .bf16⟩
  | .local _ .vmem, ⟨20, _⟩ => ⟨S1x128x16, .i32⟩
  | .local _ .vmem, ⟨21, _⟩ => ⟨S1x128x16, .i32⟩
  | .local _ .vmem, ⟨22, _⟩ => ⟨S2048x128, .bf16⟩
  | .local _ .vmem, ⟨23, _⟩ => ⟨S128x2048, .bf16⟩
  | .local _ .vmem, ⟨24, _⟩ => ⟨S128x1024, .bf16⟩
  | .local _ .vmem, ⟨25, _⟩ => ⟨S8x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x128, .bf16⟩
  | .local _ .vmem, ⟨30, _⟩ => ⟨S1x128x16x512, .f32⟩
  | .local _ .vmem, ⟨31, _⟩ => ⟨S1x128x16x512, .f32⟩
  | .local _ .vmem, ⟨32, _⟩ => ⟨S1x128x128, .f32⟩
  | .local _ .vmem, ⟨33, _⟩ => ⟨S1x128x128, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1_0 : Ref sig .tc := ⟨.hbm, 19, rfl⟩
abbrev main_call0_v1_1 : Ref sig .tc := ⟨.hbm, 20, rfl⟩
abbrev main_call0_v1_2 : Ref sig .tc := ⟨.hbm, 21, rfl⟩
abbrev main_call0_v2 : Ref sig .tc := ⟨.hbm, 22, rfl⟩
abbrev main_call0_c : Ref sig .tc := ⟨.hbm, 23, rfl⟩
abbrev main_call0_call0_v0 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_0 : Ref sig .tc := ⟨.hbm, 28, rfl⟩
abbrev main_call0_call1_v0 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_c_1 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_call0_v17 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v0_1 : Ref sig .tc := ⟨.hbm, 47, rfl⟩
abbrev main_v0_0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg12_1 : Ref sig .tc := ⟨.vmem, 31, rfl⟩
abbrev cc2_stg13_0 : Ref sig .tc := ⟨.vmem, 32, rfl⟩
abbrev cc2_stg13_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem12_1 : DmaSem sig := 31
abbrev cc2_sem13_0 : DmaSem sig := 32
abbrev cc2_sem13_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![8, 1], ![false, false]⟩

def k1_off1 (i : grid1.Coords) : Fin 3 → Nat :=
  let c0_2 : Index := 0#32
  let arg1 : BitVec 32 := BitVec.ofNat 32 (i 1).val
  let c1024_i32 : BitVec 32 := 1024#32
  let v2 : BitVec 32 := Scalar.muli arg1 c1024_i32
  let v3 : Index := Scalar.indexCast v2
  let c0_3 : Index := 0#32
  ![0, v3.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x16 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![8, 8], ![false, false]⟩

def k2_off1 (i : grid2.Coords) : Fin 3 → Nat :=
  let c0_12 : Index := 0#32
  let arg1 : BitVec 32 := BitVec.ofNat 32 (i 1).val
  let c128_i32 : BitVec 32 := 128#32
  let v20 : BitVec 32 := Scalar.muli arg1 c128_i32
  let v21 : Index := Scalar.indexCast v20
  let c128 : Index := 128#32
  ![0, v21.toNat, 128]
def k2_off2 (i : grid2.Coords) : Fin 3 → Nat :=
  let c0_41 : Index := 0#32
  let arg1 : BitVec 32 := BitVec.ofNat 32 (i 1).val
  let c128_i32_40 : BitVec 32 := 128#32
  let v75 : BitVec 32 := Scalar.muli arg1 c128_i32_40
  let v76 : Index := Scalar.indexCast v75
  let c0_42 : Index := 0#32
  ![0, v76.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x136 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x128x16 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S2048x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S8x512 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S512x512 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S512x512 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S512x512 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S512x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x128x16x512 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S1x128x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]
-- ==== KernelIdeal.lean ====
variable {F : FTy → Type} [FloatOps F] [Named F]
def κ : String → Option EReal := fun
  | "score_scale" => some ((((Real.sqrt 512) * (Real.log 2))⁻¹ : ℝ) : EReal)
  | _ => none
-- ==== ReferenceIdeal.lean ====
abbrev S8x1024x3 : Shape := ⟨3, ![8, 1024, 3]⟩
abbrev S8x1024x128 : Shape := ⟨3, ![8, 1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S512x512 : Shape := ⟨2, ![512, 512]⟩
abbrev S3x512 : Shape := ⟨2, ![3, 512]⟩
abbrev S8x1024x1024 : Shape := ⟨3, ![8, 1024, 1024]⟩
abbrev S_ : Shape := ⟨0, ![]⟩
abbrev S8x1024 : Shape := ⟨2, ![8, 1024]⟩
abbrev S8x1024x1 : Shape := ⟨3, ![8, 1024, 1]⟩
abbrev S8x1x1024 : Shape := ⟨3, ![8, 1, 1024]⟩
abbrev S8x1024x16 : Shape := ⟨3, ![8, 1024, 16]⟩
abbrev S8 : Shape := ⟨1, ![8]⟩
abbrev S8x1x1 : Shape := ⟨3, ![8, 1, 1]⟩
abbrev S8x1024x16x1 : Shape := ⟨4, ![8, 1024, 16, 1]⟩
abbrev S8x1024x16x2 : Shape := ⟨4, ![8, 1024, 16, 2]⟩
abbrev S8x1024x16x3 : Shape := ⟨4, ![8, 1024, 16, 3]⟩
abbrev S8x1024x512 : Shape := ⟨3, ![8, 1024, 512]⟩
abbrev S1x1x512 : Shape := ⟨3, ![1, 1, 512]⟩
abbrev S8x1024x16x512 : Shape := ⟨4, ![8, 1024, 16, 512]⟩
abbrev S8x1024x1x3 : Shape := ⟨4, ![8, 1024, 1, 3]⟩
abbrev S1x1x1x512 : Shape := ⟨4, ![1, 1, 1, 512]⟩
abbrev S8x1024x1x512 : Shape := ⟨4, ![8, 1024, 1, 512]⟩
abbrev S1x1x128 : Shape := ⟨3, ![1, 1, 128]⟩

abbrev nBuf : Space → Nat
  | .hbm => 165
  | .vmem => 0
  | .smem => 0
  | _ => 0

abbrev hbmTy0_0 (i : Nat) : BufTy := match i % 128 with
  | 0 => ⟨S8x1024x3, .f32⟩
  | 1 => ⟨S8x1024x3, .f32⟩
  | 2 => ⟨S8x1024x128, .f32⟩
  | 3 => ⟨S128x512, .f32⟩
  | 4 => ⟨S512, .f32⟩
  | 5 => ⟨S512x128, .f32⟩
  | 6 => ⟨S128, .f32⟩
  | 7 => ⟨S512x512, .f32⟩
  | 8 => ⟨S512, .f32⟩
  | 9 => ⟨S512x512, .f32⟩
  | 10 => ⟨S512, .f32⟩
  | 11 => ⟨S3x512, .f32⟩
  | 12 => ⟨S512, .f32⟩
  | 13 => ⟨S512x512, .f32⟩
  | 14 => ⟨S512, .f32⟩
  | 15 => ⟨S512x512, .f32⟩
  | 16 => ⟨S512x512, .f32⟩
  | 17 => ⟨S512x512, .f32⟩
  | 18 => ⟨S8x1024x1024, .f32⟩
  | 19 => ⟨S_, .f32⟩
  | 20 => ⟨S8x1024x1024, .f32⟩
  | 21 => ⟨S8x1024x1024, .f32⟩
  | 22 => ⟨S8x1024x3, .f32⟩
  | 23 => ⟨S_, .f32⟩
  | 24 => ⟨S8x1024, .f32⟩
  | 25 => ⟨S8x1024x1, .f32⟩
  | 26 => ⟨S8x1024x1024, .f32⟩
  | 27 => ⟨S8x1024x1024, .f32⟩
  | 28 => ⟨S8x1024x3, .f32⟩
  | 29 => ⟨S_, .f32⟩
  | 30 => ⟨S8x1024, .f32⟩
  | 31 => ⟨S8x1x1024, .f32⟩
  | 32 => ⟨S8x1024x1024, .f32⟩
  | 33 => ⟨S8x1024x1024, .f32⟩
  | 34 => ⟨S8x1024x1024, .i32⟩
  | 35 => ⟨S8x1024x1024, .f32⟩
  | 36 => ⟨S8x1024x1024, .i32⟩
  | 37 => ⟨S8x1024x16, .i32⟩
  | 38 => ⟨S8, .i32⟩
  | 39 => ⟨S8x1x1, .i32⟩
  | 40 => ⟨S_, .i32⟩
  | 41 => ⟨S8x1x1, .i32⟩
  | 42 => ⟨S8x1x1, .i1⟩
  | 43 => ⟨S_, .i32⟩
  | 44 => ⟨S8x1x1, .i32⟩
  | 45 => ⟨S8x1x1, .i32⟩
  | 46 => ⟨S8x1x1, .i32⟩
  | 47 => ⟨S_, .i32⟩
  | 48 => ⟨S8x1024x16, .i32⟩
  | 49 => ⟨S8x1024x16, .i1⟩
  | 50 => ⟨S_, .i32⟩
  | 51 => ⟨S8x1024x16, .i32⟩
  | 52 => ⟨S8x1024x16, .i32⟩
  | 53 => ⟨S8x1024x16, .i32⟩
  | 54 => ⟨S8x1024x16, .i32⟩
  | 55 => ⟨S8x1024x16x1, .i32⟩
  | 56 => ⟨S8x1024x16x1, .i32⟩
  | 57 => ⟨S8x1024x16x2, .i32⟩
  | 58 => ⟨S8x1024x16x3, .f32⟩
  | 59 => ⟨S8x1024x512, .f32⟩
  | 60 => ⟨S1x1x512, .f32⟩
  | 61 => ⟨S8x1024x512, .f32⟩
  | 62 => ⟨S8x1024x512, .f32⟩
  | 63 => ⟨S8x1024x512, .f32⟩
  | 64 => ⟨S8x1024x512, .f32⟩
  | 65 => ⟨S8, .i32⟩
  | 66 => ⟨S8x1x1, .i32⟩
  | 67 => ⟨S_, .i32⟩
  | 68 => ⟨S8x1x1, .i32⟩
  | 69 => ⟨S8x1x1, .i1⟩
  | 70 => ⟨S_, .i32⟩
  | 71 => ⟨S8x1x1, .i32⟩
  | 72 => ⟨S8x1x1, .i32⟩
  | 73 => ⟨S8x1x1, .i32⟩
  | 74 => ⟨S_, .i32⟩
  | 75 => ⟨S8x1024x16, .i32⟩
  | 76 => ⟨S8x1024x16, .i1⟩
  | 77 => ⟨S_, .i32⟩
  | 78 => ⟨S8x1024x16, .i32⟩
  | 79 => ⟨S8x1024x16, .i32⟩
  | 80 => ⟨S8x1024x16, .i32⟩
  | 81 => ⟨S8x1024x16, .i32⟩
  | 82 => ⟨S8x1024x16x1, .i32⟩
  | 83 => ⟨S8x1024x16x1, .i32⟩
  | 84 => ⟨S8x1024x16x2, .i32⟩
  | 85 => ⟨S8x1024x16x512, .f32⟩
  | 86 => ⟨S8x1024x512, .f32⟩
  | 87 => ⟨S8, .i32⟩
  | 88 => ⟨S8x1x1, .i32⟩
  | 89 => ⟨S_, .i32⟩
  | 90 => ⟨S8x1x1, .i32⟩
  | 91 => ⟨S8x1x1, .i1⟩
  | 92 => ⟨S_, .i32⟩
  | 93 => ⟨S8x1x1, .i32⟩
  | 94 => ⟨S8x1x1, .i32⟩
  | 95 => ⟨S8x1x1, .i32⟩
  | 96 => ⟨S_, .i32⟩
  | 97 => ⟨S8x1024x16, .i32⟩
  | 98 => ⟨S8x1024x16, .i1⟩
  | 99 => ⟨S_, .i32⟩
  | 100 => ⟨S8x1024x16, .i32⟩
  | 101 => ⟨S8x1024x16, .i32⟩
  | 102 => ⟨S8x1024x16, .i32⟩
  | 103 => ⟨S8x1024x16, .i32⟩
  | 104 => ⟨S8x1024x16x1, .i32⟩
  | 105 => ⟨S8x1024x16x1, .i32⟩
  | 106 => ⟨S8x1024x16x2, .i32⟩
  | 107 => ⟨S8x1024x16x512, .f32⟩
  | 108 => ⟨S8x1024x1x3, .f32⟩
  | 109 => ⟨S8x1024x16x3, .f32⟩
  | 110 => ⟨S8x1024x16x3, .f32⟩
  | 111 => ⟨S8x1024x16x512, .f32⟩
  | 112 => ⟨S1x1x1x512, .f32⟩
  | 113 => ⟨S8x1024x16x512, .f32⟩
  | 114 => ⟨S8x1024x16x512, .f32⟩
  | 115 => ⟨S_, .f32⟩
  | 116 => ⟨S8x1024x16x512, .f32⟩
  | 117 => ⟨S8x1024x16x512, .f32⟩
  | 118 => ⟨S8x1024x16x512, .f32⟩
  | 119 => ⟨S1x1x1x512, .f32⟩
  | 120 => ⟨S8x1024x16x512, .f32⟩
  | 121 => ⟨S8x1024x16x512, .f32⟩
  | 122 => ⟨S_, .f32⟩
  | 123 => ⟨S8x1024x16x512, .f32⟩
  | 124 => ⟨S8x1024x16x512, .f32⟩
  | 125 => ⟨S8x1024x1x512, .f32⟩
  | 126 => ⟨S8x1024x16x512, .f32⟩
  | 127 => ⟨S8x1024x16x512, .f32⟩
  | _ => ⟨S8x1024x3, .f32⟩

abbrev hbmTy0_1 (i : Nat) : BufTy := match i % 128 with
  | 0 => ⟨S8x1024x16x512, .f32⟩
  | 1 => ⟨S8x1024x16x512, .f32⟩
  | 2 => ⟨S1x1x1x512, .f32⟩
  | 3 => ⟨S8x1024x16x512, .f32⟩
  | 4 => ⟨S8x1024x16x512, .f32⟩
  | 5 => ⟨S_, .f32⟩
  | 6 => ⟨S8x1024x16x512, .f32⟩
  | 7 => ⟨S8x1024x16x512, .f32⟩
  | 8 => ⟨S8x1024x16x512, .f32⟩
  | 9 => ⟨S1x1x1x512, .f32⟩
  | 10 => ⟨S8x1024x16x512, .f32⟩
  | 11 => ⟨S8x1024x16x512, .f32⟩
  | 12 => ⟨S_, .f32⟩
  | 13 => ⟨S_, .f32⟩
  | 14 => ⟨S8x1024x16x512, .f32⟩
  | 15 => ⟨S8x1024x16x512, .f32⟩
  | 16 => ⟨S_, .f32⟩
  | 17 => ⟨S8x1024x512, .f32⟩
  | 18 => ⟨S_, .f32⟩
  | 19 => ⟨S8x1024x512, .f32⟩
  | 20 => ⟨S8x1024x512, .f32⟩
  | 21 => ⟨S8x1024x1x512, .f32⟩
  | 22 => ⟨S8x1024x16x512, .f32⟩
  | 23 => ⟨S8x1024x16x512, .f32⟩
  | 24 => ⟨S8x1024x16x512, .f32⟩
  | 25 => ⟨S_, .f32⟩
  | 26 => ⟨S8x1024x512, .f32⟩
  | 27 => ⟨S8x1024x1x512, .f32⟩
  | 28 => ⟨S8x1024x16x512, .f32⟩
  | 29 => ⟨S8x1024x16x512, .f32⟩
  | 30 => ⟨S8x1024x16x512, .f32⟩
  | 31 => ⟨S8x1024x512, .f32⟩
  | 32 => ⟨S8x1024x128, .f32⟩
  | 33 => ⟨S1x1x128, .f32⟩
  | 34 => ⟨S8x1024x128, .f32⟩
  | 35 => ⟨S8x1024x128, .f32⟩
  | 36 => ⟨S8x1024x128, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call0_v0 : Ref sig .tc := ⟨.hbm, 34, rfl⟩
abbrev main_call0_v1_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_c_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_11 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call1_cst : Ref sig .tc := ⟨.hbm, 115, rfl⟩
abbrev main_call1_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_cst : Ref sig .tc := ⟨.hbm, 122, rfl⟩
abbrev main_call2_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call3_cst : Ref sig .tc := ⟨.hbm, 133, rfl⟩
abbrev main_call3_v0 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_13 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_14 : Ref sig .tc := ⟨.hbm, 144, rfl⟩
abbrev main_v102 : Ref sig .tc := ⟨.hbm, 145, rfl⟩
abbrev main_cst_15 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_16 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]
-- ==== Proof.Nearest.lean ====
module

public import Idealize.ShloMosaic.Lib.SortPrefix
public import Idealize.ShloMosaic.PureOps.Ideal.Laws

@[expose] public section

noncomputable section

namespace Cert.Model

open Idealize.ShloMosaic

variable {n : Nat}

/-- Position `p` comes before position `q`: the smaller key first, the smaller position on equal keys. -/
def Before (d : Fin n → ℝ) (p q : Fin n) : Prop := d p < d q ∨ (d p = d q ∧ p < q)

/-- `σ` lists the first `k` positions in that order: each entry is new, and no position not yet listed comes before it. -/
structure Nearest (d : Fin n → ℝ) {k : Nat} (σ : Fin k → Fin n) : Prop where
  fresh : ∀ i j, j < i → σ j ≠ σ i
  least : ∀ i p, (∀ j, j < i → σ j ≠ p) → ¬ Before d p (σ i)

/-- A row of extended reals has a first position of its least value. -/
theorem exists_argmin [NeZero n] (r : Fin n → EReal) :
    ∃ a, (∀ p, r a ≤ r p) ∧ ∀ p, (∀ q, r p ≤ r q) → a ≤ p := by
  classical
  obtain ⟨a, -, ha⟩ := Finset.exists_min_image Finset.univ r ⟨0, Finset.mem_univ _⟩
  let S : Finset (Fin n) := Finset.univ.filter fun p => ∀ q, r p ≤ r q
  have hS : S.Nonempty := ⟨a, by simp only [S, Finset.mem_filter, Finset.mem_univ, true_and]; exact fun q => ha q (Finset.mem_univ q)⟩
  refine ⟨S.min' hS, ?_, fun p hp => S.min'_le p (by simp only [S, Finset.mem_filter, Finset.mem_univ, true_and]; exact hp)⟩
  have := S.min'_mem hS
  simp only [S, Finset.mem_filter, Finset.mem_univ, true_and] at this
  exact this

/-- The first position of a row's least value. -/
def amin [NeZero n] (r : Fin n → EReal) : Fin n := (exists_argmin r).choose

/-- No value is below the value at the first least place. -/
theorem amin_le [NeZero n] (r : Fin n → EReal) (p : Fin n) : r (amin r) ≤ r p := (exists_argmin r).choose_spec.1 p

/-- The first least place is the first place with the least value. -/
theorem amin_first [NeZero n] (r : Fin n → EReal) (p : Fin n) (h : ∀ q, r p ≤ r q) : amin r ≤ p :=
  (exists_argmin r).choose_spec.2 p h

/-- The row with the first position of its least value raised to plus infinity. -/
def maskOut [NeZero n] (r : Fin n → EReal) : Fin n → EReal := fun p => if p = amin r then ⊤ else r p

/-- The row left after `k` such rounds. -/
def rounds [NeZero n] (r : Fin n → EReal) : Nat → Fin n → EReal
  | 0 => r
  | k + 1 => maskOut (rounds r k)

/-- The position taken in round `k`. -/
def pick [NeZero n] (r : Fin n → EReal) (k : Nat) : Fin n := amin (rounds r k)

/-- A place that an earlier round picked holds infinity. -/
theorem rounds_eq_top [NeZero n] (r : Fin n → EReal) (k j : Nat) (hj : j < k) : rounds r k (pick r j) = ⊤ := by
  induction k with
  | zero => omega
  | succ k ih =>
    simp only [rounds, maskOut]
    split
    · rfl
    · rename_i hne
      rcases Nat.lt_succ_iff_lt_or_eq.mp hj with h | h
      · exact ih h
      · subst h; exact absurd rfl hne

/-- A place that no earlier round picked keeps its value. -/
theorem rounds_eq [NeZero n] (r : Fin n → EReal) (k : Nat) (p : Fin n) (h : ∀ j, j < k → pick r j ≠ p) :
    rounds r k p = r p := by
  induction k with
  | zero => rfl
  | succ k ih =>
    simp only [rounds, maskOut]
    rw [if_neg (fun e => h k (Nat.lt_succ_self k) e.symm)]
    exact ih fun j hj => h j (Nat.lt_succ_of_lt hj)

/-- A position not taken is left as long as there are fewer rounds than positions. -/
theorem exists_left [NeZero n] (r : Fin n → EReal) (k : Nat) (hk : k < n) : ∃ p, ∀ j, j < k → pick r j ≠ p := by
  classical
  by_contra hcon
  have hall : ∀ p, ∃ j, j < k ∧ pick r j = p := fun p => by
    by_contra h
    exact hcon ⟨p, fun j hj e => h ⟨j, hj, e⟩⟩
  have hsub : (Finset.univ : Finset (Fin n)) ⊆ (Finset.range k).image (pick r) := fun p _ => by
    obtain ⟨j, hj, e⟩ := hall p
    exact Finset.mem_image.mpr ⟨j, Finset.mem_range.mpr hj, e⟩
  have h1 := Finset.card_le_card hsub
  have h2 := Finset.card_image_le (s := Finset.range k) (f := pick r)
  rw [Finset.card_univ, Fintype.card_fin] at h1
  rw [Finset.card_range] at h2
  omega

/-- On a row of real numbers the rounds take the nearest positions in order. -/
theorem nearest_pick [NeZero n] (d : Fin n → ℝ) {k : Nat} (hk : k ≤ n) :
    Nearest d (fun i : Fin k => pick (fun p => (d p : EReal)) i) where
  fresh i j hji e := by
    obtain ⟨p, hp⟩ := exists_left (fun p => (d p : EReal)) i (lt_of_lt_of_le i.isLt hk)
    have h1 := amin_le (rounds (fun p => (d p : EReal)) i) p
    rw [rounds_eq _ _ p hp] at h1
    have h2 := rounds_eq_top (fun p => (d p : EReal)) i j hji
    rw [e] at h2
    unfold pick at h2
    rw [h2] at h1
    exact absurd h1 (by simp)
  least i p hp hb := by
    have hp' : ∀ j : Nat, j < i.val → pick (fun p => (d p : EReal)) j ≠ p := fun j hj =>
      hp ⟨j, lt_trans hj i.isLt⟩ hj
    have hi : rounds (fun p => (d p : EReal)) i (pick (fun p => (d p : EReal)) i) = (d (pick (fun p => (d p : EReal)) i) : EReal) := by
      refine rounds_eq _ _ _ fun j hj e => ?_
      have h1 := amin_le (rounds (fun p => (d p : EReal)) i) p
      rw [rounds_eq _ _ p hp'] at h1
      have h2 := rounds_eq_top (fun p => (d p : EReal)) i j hj
      rw [e] at h2
      unfold pick at h2
      rw [h2] at h1
      exact absurd h1 (by simp)
    have hle := amin_le (rounds (fun p => (d p : EReal)) i)
    change ∀ q, rounds _ _ (pick (fun p => (d p : EReal)) i) ≤ _ at hle
    rcases hb with hlt | ⟨heq, hlt⟩
    · have h1 := hle p
      rw [hi, rounds_eq _ _ p hp', EReal.coe_le_coe_iff] at h1
      exact absurd h1 (not_le.mpr hlt)
    · refine absurd (amin_first (rounds (fun p => (d p : EReal)) i) p fun q => ?_) (not_le.mpr hlt)
      have h1 := hle q
      rw [hi] at h1
      rw [rounds_eq _ _ p hp']
      simpa only [heq] using h1

/-- Inserting sorts two relations alike when they agree on every later element against an earlier one. -/
theorem stableSort_congr_of_later (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    refine insertBefore_congr R R' a _ fun b hb => ?_
    exact h a b (hl.1 b ((perm_stableSort R' l).mem_iff.mp hb))

/-- The stable sort of the positions by a real key starts with the nearest positions. -/
theorem sortedFrom_nearest (d : Fin n → ℝ) (R : Fin n → Fin n → Bool) (hR : ∀ p q, R p q = decide (d p < d q))
    {k : Nat} (hk : k ≤ n) (σ : Fin k → Fin n) (hσ : Nearest d σ) (i : Fin k) :
    sortedFrom R (i.castLE hk) = σ i := by
  classical
  let B : Fin n → Fin n → Bool := fun p q => decide (Before d p q)
  have hB : StrictTotalBefore B := by
    have := StrictTotalBefore.of_key_then_position (n := n) (fun a b : ℝ => decide (a < b)) d (by simp)
      (by simp only [decide_eq_true_eq]; exact fun a b c => lt_trans)
      (by simp only [decide_eq_true_eq]; exact fun a b => lt_trichotomy a b)
    convert this using 3 with p q
    simp only [B, Before]
    by_cases h : d p < d q <;> by_cases h' : d p = d q <;> simp [h, h']
  have hRB : sortedFrom R = sortedFrom B := by
    have e : sortPositions n R = sortPositions n B := by
      refine stableSort_congr_of_later R B (fun a b hab => ?_) _ (List.pairwise_lt_finRange n)
      rw [hR]
      simp only [B, Before]
      refine decide_eq_decide.mpr ⟨Or.inl, ?_⟩
      rintro (h | ⟨_, h⟩)
      · exact h
      · exact absurd h (not_lt.mpr hab.le)
    funext j
    unfold sortedFrom
    rw [List.get_of_eq e]
    rfl
  rw [hRB]
  have hne : ∀ i j, i < j → ¬ Before d (σ j) (σ i) := fun i j hij => hσ.least i (σ j) fun l hl e => hσ.fresh j l (lt_trans hl hij) e
  refine hB.sortedFrom_eq_of_prefix hk σ (fun i j e => ?_) (fun i j hij => ?_) (fun i p hp => ?_) i
  · rcases lt_trichotomy i j with h | h | h
    · exact absurd e (hσ.fresh j i h)
    · exact h
    · exact absurd e.symm (hσ.fresh i j h)
  · simpa [B] using hne i j hij
  · simpa [B] using hσ.least i p fun j _ => hp j

end Cert.Model
-- ==== Proof.Model.lean ====
module

public import proofs.«01_k».proof.Proof.Nearest

@[expose] public section

noncomputable section

namespace Cert.Model

open Idealize.ShloMosaic

/-- The finite inputs as real arrays, and the last weight as it is given. -/
structure Inp where
  X : Fin 8 → Fin 1024 → Fin 3 → ℝ
  f : Fin 8 → Fin 1024 → Fin 128 → ℝ
  w1 : Fin 128 → Fin 512 → ℝ
  w2 : Fin 512 → Fin 128 → EReal
  g1 : Fin 512 → Fin 512 → ℝ
  g2 : Fin 512 → Fin 512 → ℝ
  g2b : Fin 512 → ℝ
  d1 : Fin 3 → Fin 512 → ℝ
  d2 : Fin 512 → Fin 512 → ℝ
  wq : Fin 512 → Fin 512 → ℝ
  wk : Fin 512 → Fin 512 → ℝ
  wv : Fin 512 → Fin 512 → ℝ

namespace Inp

variable (I : Inp) (b : Fin 8) (n : Fin 1024)

/-- The squared distance between points `n` and `m` of cloud `b`. -/
def dist (m : Fin 1024) : ℝ :=
  -2 * (∑ c, I.X b n c * I.X b m c) + (∑ c, I.X b n c * I.X b n c) + ∑ c, I.X b m c * I.X b m c

/-- The `k`-th nearest point to point `n`. -/
def near (k : Fin 16) : Fin 1024 := pick (fun p => (I.dist b n p : EReal)) k

/-- The features after the first layer. -/
def x (j : Fin 512) : ℝ := ∑ i, I.f b n i * I.w1 i j

/-- A projection of the first layer by a square weight. -/
def proj (w : Fin 512 → Fin 512 → ℝ) (j : Fin 512) : ℝ := ∑ l, I.x b n l * w l j

/-- The position of point `n` relative to its `k`-th neighbour. -/
def rel (k : Fin 16) (c : Fin 3) : ℝ := I.X b n c - I.X b (I.near b n k) c

/-- The hidden layer of the position encoding. -/
def hid (k : Fin 16) (j : Fin 512) : ℝ := max (∑ c, I.rel b n k c * I.d1 c j) 0

/-- The position encoding. -/
def pos (k : Fin 16) (j : Fin 512) : ℝ := max (∑ l, I.hid b n k l * I.d2 l j) 0

/-- Query minus neighbour's key plus position encoding. -/
def arg (k : Fin 16) (j : Fin 512) : ℝ := I.proj b n I.wq j - I.proj b (I.near b n k) I.wk j + I.pos b n k j

/-- The hidden layer of the scores. -/
def thr (k : Fin 16) (j : Fin 512) : ℝ := max (∑ l, I.arg b n k l * I.g1 l j) 0

/-- The scores, without the bias that is the same for every neighbour. -/
def score (k : Fin 16) (j : Fin 512) : ℝ := ∑ l, I.thr b n k l * I.g2 l j

/-- The weights of the neighbours before division by their sum. -/
def wgt (k : Fin 16) (j : Fin 512) : ℝ := Real.exp (I.score b n k j / Real.sqrt 512)

/-- The attention. -/
def attn (k : Fin 16) (j : Fin 512) : ℝ := I.wgt b n k j / ∑ l, I.wgt b n l j

/-- The attended values. -/
def mix (j : Fin 512) : ℝ := ∑ k, I.attn b n k j * (I.proj b (I.near b n k) I.wv j + I.pos b n k j)

/-- The first result. -/
def out (c : Fin 128) : EReal := (∑ j, (I.mix b n j : EReal) * I.w2 j c) + (I.f b n c : EReal)

/-- The chosen neighbours are the sixteen nearest points, the first of equal ones before the others. -/
theorem near_nearest : Nearest (I.dist b n) (I.near b n) := nearest_pick (I.dist b n) (by decide : 16 ≤ 1024)

/-- Multiplying the two weights first gives the same projection. -/
theorem proj_eq (w : Fin 512 → Fin 512 → ℝ) (j : Fin 512) :
    ∑ i, I.f b n i * ∑ l, I.w1 i l * w l j = I.proj b n w j := by
  unfold proj x
  simp only [Finset.mul_sum, Finset.sum_mul]
  rw [Finset.sum_comm]
  exact Finset.sum_congr rfl fun l _ => Finset.sum_congr rfl fun i _ => by ring

end Inp

/-- A sum of real numbers, read in the extended reals. -/
theorem sum_coe {K : Type} [Fintype K] (f : K → ℝ) : (∑ k, (f k : EReal)) = ((∑ k, f k : ℝ) : EReal) := by
  classical
  induction (Finset.univ : Finset K) using Finset.induction_on with
  | empty => simp
  | insert a s ha ih => rw [Finset.sum_insert ha, Finset.sum_insert ha, ih, EReal.coe_add]

/-- A sum of products of real numbers, read in the extended reals. -/
theorem dot_coe {K : Type} [Fintype K] (f g : K → ℝ) :
    (∑ k, (f k : EReal) * (g k : EReal)) = ((∑ k, f k * g k : ℝ) : EReal) := by
  rw [← sum_coe]
  exact Finset.sum_congr rfl fun k _ => (EReal.coe_mul _ _).symm

/-- The larger of two reals, as an extended real. -/
theorem max_coe (a b : ℝ) : max (a : EReal) (b : EReal) = ((max a b : ℝ) : EReal) := (EReal.coe_strictMono.monotone.map_max).symm

/-- The larger of a real and zero, as an extended real. -/
theorem max_coe_zero (a : ℝ) : max (a : EReal) 0 = ((max a 0 : ℝ) : EReal) := by
  rw [← EReal.coe_zero, max_coe]

/-- The greatest of finitely many real numbers is a real number. -/
theorem fold_max_coe {n : Nat} [NeZero n] (f : Fin n → ℝ) :
    ∃ M : ℝ, Finset.univ.fold max (⊥ : EReal) (fun k => (f k : EReal)) = (M : EReal) := by
  classical
  have h : ∀ s : Finset (Fin n), s.Nonempty → ∃ M : ℝ, s.fold max (⊥ : EReal) (fun k => (f k : EReal)) = (M : EReal) := by
    intro s hs
    induction hs using Finset.Nonempty.cons_induction with
    | singleton a => exact ⟨f a, by simp⟩
    | cons a s ha _ ih =>
      obtain ⟨M, hM⟩ := ih
      exact ⟨max (f a) M, by rw [Finset.fold_cons, hM, max_coe]⟩
  exact h _ ⟨0, Finset.mem_univ _⟩

/-- A quotient of real numbers, read in the extended reals. -/
theorem div_coe_coe (a b : ℝ) (h : b ≠ 0) : Ideal.div (a : EReal) (b : EReal) = ((a / b : ℝ) : EReal) := by
  rw [Ideal.div_coe h, ← EReal.coe_mul, mul_one_div]

/-- A softmax is not changed by a shift of all its arguments. -/
theorem softmax_shift {n : Nat} (s : Fin n → ℝ) (g c M : ℝ) (k : Fin n) :
    Real.exp ((s k + g) / c - M) / ∑ l, Real.exp ((s l + g) / c - M) = Real.exp (s k / c) / ∑ l, Real.exp (s l / c) := by
  have h : ∀ l, Real.exp ((s l + g) / c - M) = Real.exp (g / c - M) * Real.exp (s l / c) := fun l => by
    rw [← Real.exp_add]; congr 1; ring
  simp only [h, ← Finset.mul_sum]
  exact mul_div_mul_left _ _ (Real.exp_pos _).ne'

/-- Powers of two of arguments scaled by `1 / (√512 · log 2)` are exponentials of arguments divided by `√512`. -/
theorem rpow_scaled (t g : Fin 512 → ℝ) :
    Real.rpow 2 (∑ l, t l * (g l * ((Real.sqrt 512) * (Real.log 2))⁻¹)) = Real.exp ((∑ l, t l * g l) / Real.sqrt 512) := by
  have h : ∑ l, t l * (g l * ((Real.sqrt 512) * (Real.log 2))⁻¹) = (∑ l, t l * g l) * ((Real.sqrt 512) * (Real.log 2))⁻¹ := by
    rw [Finset.sum_mul]
    exact Finset.sum_congr rfl fun l _ => by ring
  have hl : Real.log 2 ≠ 0 := (Real.log_pos (by norm_num)).ne'
  rw [h]
  rw [Real.rpow_eq_pow]
  rw [Real.rpow_def_of_pos (by norm_num)]
  congr 1
  have hs : Real.sqrt 512 ≠ 0 := (Real.sqrt_pos.mpr (by norm_num)).ne'
  field_simp

/-- A row that is one at one place and zero elsewhere picks out an entry. -/
theorem onehot_dot {K : Type} [Fintype K] [DecidableEq K] (p : K → Prop) [DecidablePred p] (a : K)
    (hp : ∀ k, p k ↔ k = a) (g : K → EReal) : (∑ k, (if p k then (1 : EReal) else 0) * g k) = g a := by
  rw [Finset.sum_eq_single a]
  · rw [if_pos ((hp a).mpr rfl), one_mul]
  · intro k _ hk
    rw [if_neg fun h => hk ((hp k).mp h), zero_mul]
  · exact fun h => absurd (Finset.mem_univ a) h

end Cert.Model
-- ==== Proof.Args.lean ====
module

public import proofs.«01_k».proof.Proof.Model
public import Idealize.ShloMosaic.Lib.Pointwise

@[expose] public section

noncomputable section

namespace Cert.Model

open Idealize.ShloMosaic

/-- The argument arrays of either program hold the numbers `I`. -/
structure Args (I : Inp) (a0 : (⟨3, ![8, 1024, 3]⟩ : Shape).Idx → EReal) (a2 : (⟨3, ![8, 1024, 128]⟩ : Shape).Idx → EReal)
    (a3 : (⟨2, ![128, 512]⟩ : Shape).Idx → EReal) (a5 : (⟨2, ![512, 128]⟩ : Shape).Idx → EReal)
    (a7 a9 : (⟨2, ![512, 512]⟩ : Shape).Idx → EReal) (a11 : (⟨2, ![3, 512]⟩ : Shape).Idx → EReal)
    (a13 a15 a16 a17 : (⟨2, ![512, 512]⟩ : Shape).Idx → EReal) : Prop where
  X : ∀ b n c, a0 (ix3 b n c) = (I.X b n c : EReal)
  f : ∀ b n c, a2 (ix3 b n c) = (I.f b n c : EReal)
  w1 : ∀ i j, a3 (ix2 i j) = (I.w1 i j : EReal)
  w2 : ∀ i j, a5 (ix2 i j) = I.w2 i j
  g1 : ∀ i j, a7 (ix2 i j) = (I.g1 i j : EReal)
  g2 : ∀ i j, a9 (ix2 i j) = (I.g2 i j : EReal)
  d1 : ∀ i j, a11 (ix2 i j) = (I.d1 i j : EReal)
  d2 : ∀ i j, a13 (ix2 i j) = (I.d2 i j : EReal)
  wq : ∀ i j, a15 (ix2 i j) = (I.wq i j : EReal)
  wk : ∀ i j, a16 (ix2 i j) = (I.wk i j : EReal)
  wv : ∀ i j, a17 (ix2 i j) = (I.wv i j : EReal)

end Cert.Model
-- ==== Proof.Prep.lean ====
module

public import proofs.«01_k».proof.Proof.Model
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Prep

open Idealize.ShloMosaic Idealize.ShloMosaic.TcCoe Cert.KernelIdeal Cert.KernelIdeal.Gen Cert.Model

/-- The number that the scale of the scores stands for. -/
abbrev scale : ℝ := ((Real.sqrt 512) * (Real.log 2))⁻¹

/-- The queries' payload: two products, one after the other. -/
theorem pay1_read (I : Inp) (b : Fin 8) (v0 : Vec Ideal S1x1024x128 .f32) (v2 : Vec Ideal S128x512 .f32) (v4 : Vec Ideal S512x512 .f32)
    (h0 : ∀ n c, v0 (ix3 (0 : Fin 1) n c) = (I.f b n c : EReal)) (h2 : ∀ i j, v2 (ix2 i j) = (I.w1 i j : EReal))
    (h4 : ∀ i j, v4 (ix2 i j) = (I.wq i j : EReal)) (n : Fin 1024) (j : Fin 512) :
    k0_pay1 v0 v2 v4 (ix3 (0 : Fin 1) n j) = (I.proj b n I.wq j : EReal) := by
  pointwise [k0_pay1]
  simp only [h0, h2, h4, dot_coe]
  rfl

/-- The keys' and values' payload: the first layer's weight times the two weights side by side. -/
theorem pay2_read (I : Inp) (w : Fin 512 → Fin 1024 → ℝ) (v2 : Vec Ideal S128x512 .f32) (v10 : Vec Ideal S512x1024 .f32)
    (h2 : ∀ i j, v2 (ix2 i j) = (I.w1 i j : EReal)) (h10 : ∀ i j, v10 (ix2 i j) = (w i j : EReal)) (i : Fin 128) (j : Fin 1024) :
    k0_pay2 v2 v10 (ix2 i j) = ((∑ l, I.w1 i l * w l j : ℝ) : EReal) := by
  pointwise [k0_pay2]
  simp only [h2, h10, dot_coe]

/-- The scale's value. -/
theorem scale_val : (Named.named (F := Ideal) κ "score_scale" 0x3D8293EE#32 : Ideal .f32) = (scale : EReal) :=
  IdealRules.named_const.ideal_named_scalar _ _ _ _ rfl

/-- The scores' weight, scaled. -/
theorem pay3_read (I : Inp) (v15 : Vec Ideal S512x512 .f32)
    (h15 : ∀ i j, v15 (ix2 i j) = (I.g2 i j : EReal)) (i j : Fin 512) :
    k0_pay3 v15 (ix2 i j) = ((I.g2 i j * scale : ℝ) : EReal) := by
  pointwise [k0_pay3]
  simp only [h15, scale_val, ← EReal.coe_mul]

variable (V : (c : Dev nD) → (b : Ref sig .tc) → Buf (Elt Ideal) ((c : Thread nD τ).loc b)) (c : Dev nD)

/-- Which block each of the first region's windows holds. -/
theorem idx0 : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![0, 0]
    ∧ win0_7.index t = ![0, 0] := by decide +kernel

/-- The queries after the first region. -/
theorem arr5 (I : Inp) (hf : ∀ b n j, V c main_arg2 (ix3 b n j) = (I.f b n j : EReal))
    (h1 : ∀ i j, V c main_arg3 (ix2 i j) = (I.w1 i j : EReal)) (hq : ∀ i j, V c main_arg15 (ix2 i j) = (I.wq i j : EReal)) :
    (dat0 V c).arrAt 5 cfg0.N = fun i => (I.proj (i 0) (i 1) I.wq (i 2) : EReal) := by
  refine (dat0 V c).arrAt_eq_of_covers 5 _ (by decide +kernel) fun t hf' y => ?_
  blk_simp; rw [after0_5]; frame_out
  have ht : t.val < 8 := t.isLt
  refine (congrArg _ (eq_ix3 (n0 := 1) (n1 := 1024) (n2 := 512) y)).trans ((congrArg _ (congrArg (fun a => ix3 a _ _) (Subsingleton.elim _ _))).trans
    ((pay1_read I ⟨t.val, ht⟩ _ _ _ (fun n j => ?_) (fun i j => ?_) (fun i j => ?_) _ _).trans ?_))
  · rw [← hf]; blk_ext [iblk0, idx0 t]
  · rw [← h1]; blk_ext [iblk0, idx0 t]
  · rw [← hq]; blk_ext [iblk0, idx0 t]
  · congr 2
    all_goals apply Fin.ext; blk_simp [idx0 t]
    all_goals idx_bounds y; simp; try omega

/-- The keys' and values' weights after the first region. -/
theorem arr6 (I : Inp) (w : Fin 512 → Fin 1024 → ℝ) (h1 : ∀ i j, V c main_arg3 (ix2 i j) = (I.w1 i j : EReal))
    (hw : ∀ i j, V c main_call0_v0 (ix2 i j) = (w i j : EReal)) :
    (dat0 V c).arrAt 6 cfg0.N = fun i => ((∑ l, I.w1 (i 0) l * w l (i 1) : ℝ) : EReal) := by
  refine (dat0 V c).arrAt_eq_of_covers 6 _ (by decide +kernel) fun t hf' y => ?_
  blk_simp; rw [after0_6]; frame_out
  refine (congrArg _ (eq_ix2 (n0 := 128) (n1 := 1024) y)).trans
    ((pay2_read I w _ _ (fun i j => ?_) (fun i j => ?_) _ _).trans ?_)
  · rw [← h1]; blk_ext [iblk0, idx0 t]
  · rw [← hw]; blk_ext [iblk0, idx0 t]
  · congr 4 with l
    congr 2
    all_goals apply Fin.ext; blk_simp [idx0 t]
    all_goals idx_bounds y; simp; try omega

/-- The scaled weight of the scores after the first region. -/
theorem arr7 (I : Inp) (hg : ∀ i j, V c main_arg9 (ix2 i j) = (I.g2 i j : EReal)) :
    (dat0 V c).arrAt 7 cfg0.N = fun i => ((I.g2 (i 0) (i 1) * scale : ℝ) : EReal) := by
  refine (dat0 V c).arrAt_eq_of_covers 7 _ (by decide +kernel) fun t hf' y => ?_
  blk_simp; rw [after0_7]; frame_out
  refine (congrArg _ (eq_ix2 (n0 := 512) (n1 := 512) y)).trans ((pay3_read I _ (fun i j => ?_) _ _).trans ?_)
  · rw [← hg]; blk_ext [iblk0, idx0 t]
  · congr 4
    all_goals apply Fin.ext; blk_simp [idx0 t]
    all_goals idx_bounds y; simp; try omega

end Cert.Prep
-- ==== Proof.Knn.lean ====
module

public import proofs.«01_k».proof.Proof.Model
public import proofs.«01_k».proof.Proof.Gen.KernelIdeal.Skeleton
public import Idealize.ShloMosaic.Lib.Pointwise

@[expose] public section

noncomputable section

namespace Cert.Knn

open Idealize.ShloMosaic Cert.KernelIdeal Cert.KernelIdeal.Gen Cert.Model

/-- The lane number of every entry. -/
def lane : IVec S1024x1024 32 := iota .tc S1024x1024 32 [1] iota_S1024x1024_d1_w32

/-- The word of the float infinity reads as the greatest value. -/
theorem ofBits_inf : Ideal.ofBits .f32 0x7F800000#32 = ⊤ := by
  simp [Ideal.ofBits, Ideal.ieee]

/-- The least value of a row is the value at its first least place. -/
theorem fold_min_eq {n : Nat} [NeZero n] (r : Fin n → EReal) : Finset.univ.fold min ⊤ r = r (amin r) := by
  refine le_antisymm ?_ ?_
  · exact Finset.fold_min_le _ |>.mpr (Or.inr ⟨amin r, Finset.mem_univ _, le_rfl⟩)
  · exact Finset.le_fold_min _ |>.mpr ⟨le_top, fun p _ => amin_le r p⟩

/-- A small number survives as a signed 32-bit word. -/
theorem toInt_small (x : Nat) (h : x ≤ 1024) : (BitVec.ofNat 32 x).toInt = x := by
  rw [BitVec.toInt_eq_toNat_of_lt] <;> rw [BitVec.toNat_ofNat, Nat.mod_eq_of_lt (by omega)]
  omega

/-- The signed minimum of two words. -/
theorem toInt_minsi (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

/-- The least lane number among the lanes that hold the least value is the first position of the least value. -/
theorem fold_lane (r : Fin 1024 → EReal) :
    Finset.univ.fold IntOp.minsi (2147483647#32) (fun x => if r x = r (amin r) then BitVec.ofNat 32 x.val else 1024#32)
      = BitVec.ofNat 32 (amin r).val := by
  apply BitVec.toInt_inj.mp
  rw [← Finset.fold_hom (op' := (min : Int → Int → Int)) (m := BitVec.toInt) toInt_minsi, toInt_small (amin r).val (by omega)]
  refine le_antisymm ?_ ?_
  · refine Finset.fold_min_le _ |>.mpr (Or.inr ⟨amin r, Finset.mem_univ _, ?_⟩)
    rw [if_pos rfl, toInt_small (amin r).val (by omega)]
  · refine Finset.le_fold_min _ |>.mpr ⟨?_, fun p _ => ?_⟩
    · have : (2147483647#32).toInt = 2147483647 := by decide
      change _ ≤ (2147483647#32).toInt
      rw [this]; omega
    · split
      · rename_i h
        rw [toInt_small p.val (by omega)]
        have := amin_first r p fun q => h ▸ amin_le r q
        exact_mod_cast this
      · have : (1024#32).toInt = 1024 := by decide
        rw [this]; omega

/-- One round's index column, read. -/
theorem col_read (d : FVec Ideal S1024x1024 .f32) (r : Fin 1024) :
    k1_pay4 d lane (ix2 r (0 : Fin 1)) = BitVec.ofNat 32 (amin fun p => d (ix2 r p)).val := by
  pointwise [k1_pay4, lane]
  rw [ofBits_inf, fold_min_eq fun x => d (ix2 r x)]
  exact fold_lane fun x => d (ix2 r x)

/-- One round's distances with the chosen lane raised, read. -/
theorem mask_read (d : FVec Ideal S1024x1024 .f32) (r p : Fin 1024) :
    k1_pay5 d lane (ix2 r p) = maskOut (fun p => d (ix2 r p)) p := by
  have h := col_read d r
  unfold k1_pay5
  generalize k1_pay4 d lane = col at h ⊢
  pointwise [lane]
  rw [h, ofBits_inf]
  unfold maskOut
  by_cases e : p = amin fun p => d (ix2 r p)
  · rw [if_pos e, ← e]; simp [IntOp.cmpi, Scalar.select]
  · have hne : BitVec.ofNat 32 p.val ≠ BitVec.ofNat 32 (amin fun p => d (ix2 r p)).val := fun h => e (by
      have := congrArg BitVec.toNat h
      rw [BitVec.toNat_ofNat, BitVec.toNat_ofNat, Nat.mod_eq_of_lt (by omega), Nat.mod_eq_of_lt (by omega)] at this
      exact Fin.ext this)
    have hb : (BitVec.ofNat 32 p.val == BitVec.ofNat 32 (amin fun p => d (ix2 r p)).val) = false := beq_eq_false_iff_ne.mpr hne
    rw [if_neg e]; simp [IntOp.cmpi, Scalar.select, hb]

/-- The distances after `k` rounds. -/
def after (d : FVec Ideal S1024x1024 .f32) : Nat → FVec Ideal S1024x1024 .f32
  | 0 => d
  | k + 1 => k1_pay5 (after d k) lane

/-- The distances that are left after some rounds. -/
theorem after_read (d : FVec Ideal S1024x1024 .f32) (k : Nat) (r p : Fin 1024) :
    after d k (ix2 r p) = rounds (fun p => d (ix2 r p)) k p := by
  induction k generalizing p with
  | zero => rfl
  | succ k ih =>
    rw [after, mask_read]
    simp only [ih]
    rfl

/-- The index column of round `k`. -/
def colAt (d : FVec Ideal S1024x1024 .f32) (k : Nat) : IVec S1024x1 32 := k1_pay4 (after d k) lane

/-- The index column of a round holds the place that the round picks. -/
theorem colAt_read (d : FVec Ideal S1024x1024 .f32) (k : Nat) (r : Fin 1024) :
    colAt d k (ix2 r (0 : Fin 1)) = BitVec.ofNat 32 (pick (fun p => d (ix2 r p)) k).val := by
  rw [colAt, col_read]
  simp only [after_read]
  rfl

/-- The last payload lays the sixteen columns side by side. -/
theorem last_eq (c : Fin 15 → IVec S1024x1 32) (d : FVec Ideal S1024x1024 .f32) :
    k1_pay2 (c 0) (c 1) (c 2) (c 3) (c 4) (c 5) (c 6) (c 7) (c 8) (c 9) (c 10) (c 11) (c 12) (c 13) (c 14) (k1_pay1 lane d)
      = shapeCast S1x1024x16 (concatenate S1024x16 1 [⟨S1024x1, c 0⟩, ⟨S1024x1, c 1⟩, ⟨S1024x1, c 2⟩, ⟨S1024x1, c 3⟩,
          ⟨S1024x1, c 4⟩, ⟨S1024x1, c 5⟩, ⟨S1024x1, c 6⟩, ⟨S1024x1, c 7⟩, ⟨S1024x1, c 8⟩, ⟨S1024x1, c 9⟩, ⟨S1024x1, c 10⟩,
          ⟨S1024x1, c 11⟩, ⟨S1024x1, c 12⟩, ⟨S1024x1, c 13⟩, ⟨S1024x1, c 14⟩, ⟨S1024x1, k1_pay4 d lane⟩]
          concatenates_S1024x1_S1024x1_S1024x1_S1024x1_S1024x1_S1024x1_S1024x1_S1024x1_S1024x1_S1024x1_S1024x1_S1024x1_S1024x1_S1024x1_S1024x1_S1024x1_S1024x16_d1)
          shapeCasts_S1024x16_S1x1024x16 := rfl

/-- Sixteen columns laid side by side, read. -/
theorem columns_read (c : Fin 16 → IVec S1024x1 32) (r : Fin 1024) (k : Fin 16) :
    shapeCast S1x1024x16 (concatenate S1024x16 1 [⟨S1024x1, c 0⟩, ⟨S1024x1, c 1⟩, ⟨S1024x1, c 2⟩, ⟨S1024x1, c 3⟩,
          ⟨S1024x1, c 4⟩, ⟨S1024x1, c 5⟩, ⟨S1024x1, c 6⟩, ⟨S1024x1, c 7⟩, ⟨S1024x1, c 8⟩, ⟨S1024x1, c 9⟩, ⟨S1024x1, c 10⟩,
          ⟨S1024x1, c 11⟩, ⟨S1024x1, c 12⟩, ⟨S1024x1, c 13⟩, ⟨S1024x1, c 14⟩, ⟨S1024x1, c 15⟩]
          concatenates_S1024x1_S1024x1_S1024x1_S1024x1_S1024x1_S1024x1_S1024x1_S1024x1_S1024x1_S1024x1_S1024x1_S1024x1_S1024x1_S1024x1_S1024x1_S1024x1_S1024x16_d1)
          shapeCasts_S1024x16_S1x1024x16 (ix3 (0 : Fin 1) r k) = c k (ix2 r (0 : Fin 1)) := by
  have e : shapeCast S1x1024x16 (concatenate S1024x16 1 (List.ofFn fun n : Fin 16 => (⟨S1024x1, c n⟩ : (s : Shape) × (s.Idx → BitVec 32)))
      concatenates_S1024x1_S1024x1_S1024x1_S1024x1_S1024x1_S1024x1_S1024x1_S1024x1_S1024x1_S1024x1_S1024x1_S1024x1_S1024x1_S1024x1_S1024x1_S1024x1_S1024x16_d1)
      shapeCasts_S1024x16_S1x1024x16 (ix3 (0 : Fin 1) r k) = c k (ix2 r (0 : Fin 1)) := by
    pointwise []
  exact e

/-- The sixteen columns laid side by side. -/
def table (d : FVec Ideal S1024x1024 .f32) : IVec S1x1024x16 32 :=
  k1_pay2 (colAt d 0) (colAt d 1) (colAt d 2) (colAt d 3) (colAt d 4) (colAt d 5) (colAt d 6) (colAt d 7) (colAt d 8)
    (colAt d 9) (colAt d 10) (colAt d 11) (colAt d 12) (colAt d 13) (colAt d 14) (k1_pay1 lane (after d 15))

/-- The index table holds the places that the sixteen rounds pick. -/
theorem table_read (d : FVec Ideal S1024x1024 .f32) (r : Fin 1024) (k : Fin 16) :
    table d (ix3 (0 : Fin 1) r k) = BitVec.ofNat 32 (pick (fun p => d (ix2 r p)) k.val).val := by
  have e := last_eq (fun i : Fin 15 => colAt d i.val) (after d 15)
  exact (congrFun e _).trans ((columns_read (fun i : Fin 16 => colAt d i.val) r k).trans (colAt_read d k.val r))

/-- The word of the float two. -/
theorem ofBits_two : Ideal.ofBits .f32 0x40000000#32 = ((2 : ℝ) : EReal) := by
  simp [Ideal.ofBits, Ideal.ieee, -EReal.coe_mul]; norm_num

/-- The kernel's squared distances between finite points, read. -/
theorem dist_read (I : Inp) (b : Fin 8) (v : Vec Ideal S1x1024x3 .f32)
    (hv : ∀ (r : Fin 1024) (c : Fin 3), v (ix3 (0 : Fin 1) r c) = (I.X b r c : EReal)) (r p : Fin 1024) :
    k1_pay3 v v (ix2 r p) = (I.dist b r p : EReal) := by
  pointwise [k1_pay3]
  simp only [hv, ofBits_two, dot_coe, sum_coe, ← EReal.coe_zero, ← EReal.coe_mul, ← EReal.coe_sub, ← EReal.coe_add]
  unfold Inp.dist
  rw [Fin.sum_univ_three (fun c => I.X b r c * I.X b p c)]
  congr 1
  ring

end Cert.Knn
-- ==== Proof.KnnRun.lean ====
module

public import proofs.«01_k».proof.Proof.Knn
public import proofs.«01_k».proof.Proof.Gen.KernelIdeal.Frame
public import Idealize.ShloMosaic.Lib.Pipeline.ValueKit

@[expose] public section

set_option maxRecDepth 16384

noncomputable section

namespace Cert.Knn

open Idealize.ShloMosaic Idealize.ShloMosaic.TcCoe Cert.KernelIdeal Cert.KernelIdeal.Gen Cert.Model

variable (V : (c : Dev nD) → (b : Ref sig .tc) → Buf (Elt Ideal) ((c : Thread nD τ).loc b)) (c : Dev nD)

/-- Which block each of the second region's windows holds. -/
theorem idx1 : ∀ t : Fin grid1.N, win1_0.index t = ![t.val, 0, 0] ∧ win1_1.index t = ![t.val, 0, 0]
    ∧ k1_off1 (grid1.coords t) = ![0, 0, 0] := by decide +kernel

/-- The neighbours' table after the second region. -/
theorem arr1 (I : Inp) (hX : ∀ b n j, V c main_arg0 (ix3 b n j) = (I.X b n j : EReal)) :
    (dat1 V c).arrAt 1 cfg1.N = fun i => BitVec.ofNat 32 (I.near (i 0) (i 1) (i 2)).val := by
  refine (dat1 V c).arrAt_eq_of_covers 1 _ (by decide +kernel) fun t hf' y => ?_
  blk_simp; rw [after1_1]
  have ht : t.val < 8 := t.isLt
  have key : outsAt1 V c t = table (k1_pay3 (iblk1 V c 0 t) (iblk1 V c 0 t)) := by
    have hld : ∀ hb, View.ld (iblk1 V c 0 t) (Rect.unit (s := S1x1024x3) (k1_off1 (grid1.coords t)) ![1, 1024, 3] hb) = iblk1 V c 0 t :=
      fun hb => View.ld_unit_zero (S := S1x1024x3) ((idx1 t).2.2.trans (by decide)) hb (iblk1 V c 0 t)
    unfold outsAt1
    frame_out
    simp only [hld]
    generalize k1_pay3 (iblk1 V c 0 t) (iblk1 V c 0 t) = d
    rfl
  rw [key]
  refine (congrArg _ (eq_ix3 (n0 := 1) (n1 := 1024) (n2 := 16) y)).trans ((congrArg _ (congrArg (fun a => ix3 a _ _) (Subsingleton.elim _ _))).trans
    ((table_read _ _ _).trans ?_))
  have hd : (fun p => k1_pay3 (iblk1 V c 0 t) (iblk1 V c 0 t) (ix2 (y 1) p)) = fun p => (I.dist ⟨t.val, ht⟩ (y 1) p : EReal) := by
    funext p
    refine dist_read I _ _ (fun n j => ?_) _ _
    rw [← hX]; blk_ext [iblk1, idx1 t]
  rw [hd]
  unfold Inp.near
  have e0 : ((win1_1.blk t).view.emb y 0 : Fin 8) = ⟨t.val, ht⟩ := by
    apply Fin.ext; blk_simp [idx1 t]
  have e1 : ((win1_1.blk t).view.emb y 1 : Fin 1024) = y 1 := by
    apply Fin.ext; blk_simp [idx1 t]
  have e2 : ((win1_1.blk t).view.emb y 2 : Fin 16) = y 2 := by
    apply Fin.ext; blk_simp [idx1 t]
  rw [e0, e1, e2]
  rfl

end Cert.Knn
-- ==== Proof.Main.lean ====
module

public import proofs.«01_k».proof.Proof.Model
public import proofs.«01_k».proof.Proof.Gen.KernelIdeal.Skeleton
public import Idealize.ShloMosaic.Lib.Pointwise

@[expose] public section

set_option maxRecDepth 16384

noncomputable section

namespace Cert.Main

open Idealize.ShloMosaic Cert.KernelIdeal Cert.KernelIdeal.Gen Cert.Model

/-- A point's coordinates with zeros behind. -/
def xpad (I : Inp) (b : Fin 8) (n : Fin 1024) (c : Fin 8) : ℝ := if h : c.val < 3 then I.X b n ⟨c.val, h⟩ else 0

/-- The first weight of the position encoding with zero rows below. -/
def d1pad (I : Inp) (c : Fin 8) (j : Fin 512) : ℝ := if h : c.val < 3 then I.d1 ⟨c.val, h⟩ j else 0

/-- The point of a row of the tile's 2048 pairs. -/
abbrev pnt (R : Fin 2048) : Fin 128 := ⟨R.val / 16, by omega⟩

/-- The neighbour number of a row of the tile's 2048 pairs. -/
abbrev nbr (R : Fin 2048) : Fin 16 := ⟨R.val % 16, by omega⟩

/-- What the operands of the main kernel hold when it works on the points `pt p` of cloud `b`. -/
structure Blocks (I : Inp) (b : Fin 8) (pt : Fin 128 → Fin 1024)
    (v0 : Vec Ideal S1x1024x136 .bf16) (v2 : Vec Ideal S1x128x16 .i32) (v4 : Vec Ideal S1x128x512 .bf16)
    (v6 : Vec Ideal S2048x128 .bf16) (v8 : Vec Ideal S128x2048 .bf16) (v22 : Vec Ideal S1x128x8 .bf16)
    (v28 : Vec Ideal S128x1024 .bf16) (v34 : Vec Ideal S8x512 .bf16) (v40 v49 v55 : Vec Ideal S512x512 .bf16)
    (v77 : Vec Ideal S1x128x128 .f32) (v80 : Vec Ideal S512x128 .bf16) : Prop where
  feat : ∀ (m : Fin 1024) (c : Fin 128), v0 (ix3 (0 : Fin 1) m ⟨c.val, by omega⟩) = (I.f b m c : EReal)
  xyz : ∀ (m : Fin 1024) (c : Fin 8), v0 (ix3 (0 : Fin 1) m ⟨128 + c.val, by omega⟩) = (xpad I b m c : EReal)
  idx : ∀ (p : Fin 128) (k : Fin 16), v2 (ix3 (0 : Fin 1) p k) = BitVec.ofNat 32 (I.near b (pt p) k).val
  q : ∀ (p : Fin 128) (j : Fin 512), v4 (ix3 (0 : Fin 1) p j) = (I.proj b (pt p) I.wq j : EReal)
  ohp : ∀ (R : Fin 2048) (p : Fin 128), v6 (ix2 R p) = if p = pnt R then 1 else 0
  ohpt : ∀ (p : Fin 128) (R : Fin 2048), v8 (ix2 p R) = if p = pnt R then 1 else 0
  own : ∀ (p : Fin 128) (c : Fin 8), v22 (ix3 (0 : Fin 1) p c) = (xpad I b (pt p) c : EReal)
  wk : ∀ (i : Fin 128) (j : Fin 512), v28 (ix2 i (⟨j.val, by omega⟩ : Fin 1024)) = ((∑ l, I.w1 i l * I.wk l j : ℝ) : EReal)
  wv : ∀ (i : Fin 128) (j : Fin 512), v28 (ix2 i (⟨512 + j.val, by omega⟩ : Fin 1024)) = ((∑ l, I.w1 i l * I.wv l j : ℝ) : EReal)
  d1 : ∀ (c : Fin 8) (j : Fin 512), v34 (ix2 c j) = (d1pad I c j : EReal)
  d2 : ∀ l j : Fin 512, v40 (ix2 l j) = (I.d2 l j : EReal)
  g1 : ∀ l j : Fin 512, v49 (ix2 l j) = (I.g1 l j : EReal)
  g2 : ∀ l j : Fin 512, v55 (ix2 l j) = ((I.g2 l j * ((Real.sqrt 512) * (Real.log 2))⁻¹ : ℝ) : EReal)
  res : ∀ (p : Fin 128) (c : Fin 128), v77 (ix3 (0 : Fin 1) p c) = (I.f b (pt p) c : EReal)
  fc2 : ∀ (j : Fin 512) (c : Fin 128), v80 (ix2 j c) = I.w2 j c

variable {I : Inp} {b : Fin 8} {pt : Fin 128 → Fin 1024}
  {v0 : Vec Ideal S1x1024x136 .bf16} {v2 : Vec Ideal S1x128x16 .i32} {v4 : Vec Ideal S1x128x512 .bf16}
  {v6 : Vec Ideal S2048x128 .bf16} {v8 : Vec Ideal S128x2048 .bf16} {v22 : Vec Ideal S1x128x8 .bf16}
  {v28 : Vec Ideal S128x1024 .bf16} {v34 : Vec Ideal S8x512 .bf16} {v40 v49 v55 : Vec Ideal S512x512 .bf16}
  {v77 : Vec Ideal S1x128x128 .f32} {v80 : Vec Ideal S512x128 .bf16}
  (h : Blocks I b pt v0 v2 v4 v6 v8 v22 v28 v34 v40 v49 v55 v77 v80)

/-- The word of the float one. -/
theorem ofBits_one : Ideal.ofBits .f32 0x3F800000#32 = ((1 : ℝ) : EReal) := by
  rw [Ideal.ofBits_one_f32, EReal.coe_one]

/-- A comparison bit made a number. -/
theorem onehot_bit (x y : BitVec 32) :
    (FloatOps.sitofp .f32 (BitVec.setWidth 32 (IntOp.cmpi .eq x y)) : Ideal .f32) = if x = y then (1 : EReal) else 0 := by
  by_cases e : x = y
  · rw [if_pos e, e]
    simp [IntOp.cmpi, FloatOps.sitofp]
  · have hb : (x == y) = false := beq_eq_false_iff_ne.mpr e
    rw [if_neg e]
    simp [IntOp.cmpi, FloatOps.sitofp, hb]

/-- The nearest point of a row's pair. -/
abbrev nb (I : Inp) (b : Fin 8) (pt : Fin 128 → Fin 1024) (R : Fin 2048) : Fin 1024 := I.near b (pt (pnt R)) (nbr R)

/-- The rows of one point are the sixteen pairs with its neighbours. -/
theorem rows_sum (p : Fin 128) (g : Fin 2048 → EReal) :
    (∑ R, (if p = pnt R then (1 : EReal) else 0) * g R) = ∑ k : Fin 16, g ⟨p.val * 16 + k.val, by omega⟩ := by
  rw [← Equiv.sum_comp (finProdFinEquiv (m := 128) (n := 16)), Fintype.sum_prod_type, Finset.sum_eq_single p]
  · refine Finset.sum_congr rfl fun k _ => ?_
    have e : (finProdFinEquiv (m := 128) (n := 16) (p, k) : Fin 2048) = ⟨p.val * 16 + k.val, by omega⟩ := by
      apply Fin.ext; simp [finProdFinEquiv]; omega
    rw [e, if_pos (by apply Fin.ext; simp; omega), one_mul]
  · intro p' _ hp'
    refine Finset.sum_eq_zero fun k _ => ?_
    have e : (finProdFinEquiv (m := 128) (n := 16) (p', k) : Fin 2048) = ⟨p'.val * 16 + k.val, by omega⟩ := by
      apply Fin.ext; simp [finProdFinEquiv]; omega
    rw [e, if_neg, zero_mul]
    intro hh
    apply hp'
    rw [hh]; apply Fin.ext; simp; omega
  · exact fun hh => absurd (Finset.mem_univ p) hh

/-- The point that a row of the block belongs to. -/
theorem pnt_row (p : Fin 128) (k : Fin 16) (hlt : p.val * 16 + k.val < 2048) : pnt ⟨p.val * 16 + k.val, hlt⟩ = p :=
  Fin.ext (by simp only [pnt]; omega)

/-- The neighbour that a row of the block belongs to. -/
theorem nbr_row (p : Fin 128) (k : Fin 16) (hlt : p.val * 16 + k.val < 2048) : nbr ⟨p.val * 16 + k.val, hlt⟩ = k :=
  Fin.ext (by simp only [nbr]; omega)

include h

/-- The gathered rows: the features and coordinates of the row's neighbour. -/
theorem pay5_read (R : Fin 2048) (c : Fin 136) : k2_pay5 v0 v2 (ix2 R c) = v0 (ix3 (0 : Fin 1) (nb I b pt R) c) := by
  pointwise [k2_pay5]
  simp only [onehot_bit]
  have hi := h.idx (pnt R) (nbr R)
  simp only [hi]
  refine onehot_dot (fun x : Fin 1024 => BitVec.ofNat 32 (nb I b pt R).val = BitVec.ofNat 32 x.val) (nb I b pt R)
    (fun k => ⟨fun e => ?_, fun e => by rw [e]⟩) fun x => v0 (ix3 (0 : Fin 1) x c)
  have e' := congrArg BitVec.toNat e
  rw [BitVec.toNat_ofNat, BitVec.toNat_ofNat, Nat.mod_eq_of_lt (by omega), Nat.mod_eq_of_lt (by omega)] at e'
  exact Fin.ext e'.symm

/-- The relative positions, with zeros behind. -/
theorem pay9_read (R : Fin 2048) (c : Fin 8) :
    k2_pay9 v0 v2 v6 v22 (ix2 R c) = ((xpad I b (pt (pnt R)) c - xpad I b (nb I b pt R) c : ℝ) : EReal) := by
  have h5 := pay5_read h R
  unfold k2_pay9
  generalize k2_pay5 v0 v2 = y at h5 ⊢
  pointwise [k2_pay3]
  simp only [h.ohp]
  rw [onehot_dot (fun x : Fin 128 => x = pnt R) (pnt R) (fun _ => Iff.rfl), h5, h.own, h.xyz, EReal.coe_sub]

/-- The neighbours' features times the joint weight. -/
theorem pay6_read (R : Fin 2048) (c : Fin 1024) :
    k2_pay6 v0 v2 v28 (ix2 R c) = ∑ i : Fin 128, (I.f b (nb I b pt R) i : EReal) * v28 (ix2 i c) := by
  have h5 := pay5_read h R
  unfold k2_pay6
  generalize k2_pay5 v0 v2 = y at h5 ⊢
  pointwise []
  simp only [h5, h.feat]

/-- The neighbours' keys. -/
theorem pay7_read (R : Fin 2048) (j : Fin 512) :
    k2_pay7 v0 v2 v28 (ix2 R j) = (I.proj b (nb I b pt R) I.wk j : EReal) := by
  have h6 := pay6_read h R
  unfold k2_pay7
  generalize k2_pay6 v0 v2 v28 = y at h6 ⊢
  pointwise []
  rw [h6, ← I.proj_eq]
  simp only [h.wk, dot_coe]

/-- The neighbours' values. -/
theorem pay8_read (R : Fin 2048) (j : Fin 512) :
    k2_pay8 v0 v2 v28 (ix2 R j) = (I.proj b (nb I b pt R) I.wv j : EReal) := by
  have h6 := pay6_read h R
  unfold k2_pay8
  generalize k2_pay6 v0 v2 v28 = y at h6 ⊢
  pointwise []
  rw [h6, ← I.proj_eq]
  simp only [h.wv, dot_coe]

/-- The position encodings. -/
theorem pay10_read (R : Fin 2048) (j : Fin 512) :
    k2_pay10 (k2_pay9 v0 v2 v6 v22) v34 v40 (ix2 R j) = (I.pos b (pt (pnt R)) (nbr R) j : EReal) := by
  have h9 := pay9_read h R
  generalize k2_pay9 v0 v2 v6 v22 = y at h9 ⊢
  pointwise [k2_pay10]
  simp only [h9, h.d1, h.d2, dot_coe, max_coe_zero]
  unfold Inp.pos Inp.hid Inp.rel
  congr 3
  funext l
  congr 2
  rw [Fin.sum_univ_eight, Fin.sum_univ_three]
  simp [xpad, d1pad]

/-- The weights before division. -/
theorem pay11_read (R : Fin 2048) (j : Fin 512) :
    k2_pay11 (k2_pay2 v4) (k2_pay3 v6) (k2_pay7 v0 v2 v28) (k2_pay9 v0 v2 v6 v22) v34 v40 v49 v55 (ix2 R j)
      = (I.wgt b (pt (pnt R)) (nbr R) j : EReal) := by
  have h7 := pay7_read h R
  have h10 := pay10_read h R
  unfold k2_pay11
  generalize k2_pay7 v0 v2 v28 = y at h7 ⊢
  generalize k2_pay10 (k2_pay9 v0 v2 v6 v22) v34 v40 = z at h10 ⊢
  pointwise [k2_pay2, k2_pay3]
  have hq : ∀ x_1 : Fin 512, (∑ x : Fin 128, v6 (ix2 R x) * v4 (ix3 (0 : Fin 1) x x_1)) = (I.proj b (pt (pnt R)) I.wq x_1 : EReal) := fun x_1 => by
    simp only [h.ohp]
    rw [onehot_dot (fun x : Fin 128 => x = pnt R) (pnt R) (fun _ => Iff.rfl) fun x => v4 (ix3 (0 : Fin 1) x x_1), h.q]
  simp only [hq, h7, h10, h.g1, h.g2, ← EReal.coe_sub, ← EReal.coe_add, dot_coe, max_coe_zero]
  refine (Ideal.exp2_coe _).trans ?_
  rw [rpow_scaled]
  rfl

/-- The reciprocals of the weights' sums. -/
theorem pay12_read (p : Fin 128) (j : Fin 512) :
    k2_pay12 (k2_pay2 v4) (k2_pay3 v6) (k2_pay4 v8) (k2_pay7 v0 v2 v28) (k2_pay9 v0 v2 v6 v22) v34 v40 v49 v55 (ix2 p j)
      = ((1 / ∑ k, I.wgt b (pt p) k j : ℝ) : EReal) := by
  have h11 := pay11_read h
  unfold k2_pay12
  generalize k2_pay11 (k2_pay2 v4) (k2_pay3 v6) (k2_pay7 v0 v2 v28) (k2_pay9 v0 v2 v6 v22) v34 v40 v49 v55 = y at h11 ⊢
  pointwise [k2_pay4]
  simp only [h.ohpt]
  rw [rows_sum p fun x => y (ix2 x j)]
  simp only [h11, pnt_row, nbr_row, sum_coe]
  rw [← EReal.coe_one, div_coe_coe]
  exact (Finset.sum_pos (fun k _ => Real.exp_pos _) Finset.univ_nonempty).ne'

/-- The attention block. -/
theorem pay13_read (p : Fin 128) (k : Fin 16) (j : Fin 512) :
    k2_pay13 (k2_pay2 v4) (k2_pay3 v6) (k2_pay4 v8) (k2_pay7 v0 v2 v28) (k2_pay9 v0 v2 v6 v22) v34 v40 v49 v55
      (ix4 (0 : Fin 1) p k j) = (I.attn b (pt p) k j : EReal) := by
  have h11 := pay11_read h
  have h12 := pay12_read h p j
  unfold k2_pay13
  generalize k2_pay11 (k2_pay2 v4) (k2_pay3 v6) (k2_pay7 v0 v2 v28) (k2_pay9 v0 v2 v6 v22) v34 v40 v49 v55 = y at h11 ⊢
  generalize k2_pay12 (k2_pay2 v4) (k2_pay3 v6) (k2_pay4 v8) (k2_pay7 v0 v2 v28) (k2_pay9 v0 v2 v6 v22) v34 v40 v49 v55 = z at h12 ⊢
  pointwise []
  rw [h11, h12, ← EReal.coe_mul]
  simp only [pnt_row, nbr_row]
  unfold Inp.attn
  rw [mul_one_div]

/-- The weighted values. -/
theorem pay14_read (R : Fin 2048) (j : Fin 512) :
    k2_pay14 (k2_pay2 v4) (k2_pay3 v6) (k2_pay7 v0 v2 v28) (k2_pay8 v0 v2 v28) (k2_pay9 v0 v2 v6 v22) v34 v40 v49 v55 (ix2 R j)
      = (((I.proj b (nb I b pt R) I.wv j + I.pos b (pt (pnt R)) (nbr R) j) * I.wgt b (pt (pnt R)) (nbr R) j : ℝ) : EReal) := by
  have h8 := pay8_read h R j
  have h10 := pay10_read h R j
  have h11 := pay11_read h R j
  unfold k2_pay14
  generalize k2_pay11 (k2_pay2 v4) (k2_pay3 v6) (k2_pay7 v0 v2 v28) (k2_pay9 v0 v2 v6 v22) v34 v40 v49 v55 = y at h11 ⊢
  generalize k2_pay8 v0 v2 v28 = z at h8 ⊢
  generalize k2_pay10 (k2_pay9 v0 v2 v6 v22) v34 v40 = w at h10 ⊢
  pointwise []
  rw [h8, h10, h11, EReal.coe_mul, EReal.coe_add]

/-- The result block. -/
theorem pay1_read (p : Fin 128) (c : Fin 128) :
    k2_pay1 (k2_pay4 v8)
      (k2_pay12 (k2_pay2 v4) (k2_pay3 v6) (k2_pay4 v8) (k2_pay7 v0 v2 v28) (k2_pay9 v0 v2 v6 v22) v34 v40 v49 v55)
      (k2_pay14 (k2_pay2 v4) (k2_pay3 v6) (k2_pay7 v0 v2 v28) (k2_pay8 v0 v2 v28) (k2_pay9 v0 v2 v6 v22) v34 v40 v49 v55)
      (constant S128x512 .f32 0x00000000#32) v77 v80 (ix3 (0 : Fin 1) p c) = I.out b (pt p) c := by
  have h12 := pay12_read h p
  have h14 := pay14_read h
  generalize k2_pay12 (k2_pay2 v4) (k2_pay3 v6) (k2_pay4 v8) (k2_pay7 v0 v2 v28) (k2_pay9 v0 v2 v6 v22) v34 v40 v49 v55 = y at h12 ⊢
  generalize k2_pay14 (k2_pay2 v4) (k2_pay3 v6) (k2_pay7 v0 v2 v28) (k2_pay8 v0 v2 v28) (k2_pay9 v0 v2 v6 v22) v34 v40 v49 v55 = z at h14 ⊢
  pointwise [k2_pay1, k2_pay4]
  have hu : ∀ x : Fin 512, (∑ x_1 : Fin 2048, v8 (ix2 p x_1) * z (ix2 x_1 x)) * y (ix2 p x) = (I.mix b (pt p) x : EReal) := fun x => by
    simp only [h.ohpt]
    rw [rows_sum p fun r => z (ix2 r x)]
    simp only [h14, nb, pnt_row, nbr_row, sum_coe, h12]
    rw [← EReal.coe_mul, Finset.sum_mul]
    unfold Inp.mix Inp.attn
    congr 1
    exact Finset.sum_congr rfl fun k _ => by ring
  simp only [hu, h.fc2, h.res]
  rfl

end Cert.Main
-- ==== Proof.MainRun.lean ====
module

public import proofs.«01_k».proof.Proof.Main
public import proofs.«01_k».proof.Proof.Gen.KernelIdeal.Frame
public import Idealize.ShloMosaic.Lib.Pipeline.ValueKit

@[expose] public section

set_option maxRecDepth 16384

noncomputable section

namespace Cert.Main

open Idealize.ShloMosaic Idealize.ShloMosaic.TcCoe Cert.KernelIdeal Cert.KernelIdeal.Gen Cert.Model

variable (V : (c : Dev nD) → (b : Ref sig .tc) → Buf (Elt Ideal) ((c : Thread nD τ).loc b)) (c : Dev nD)

/-- Which block each of the third region's windows holds, and where its two partial loads start. -/
theorem idx2 : ∀ t : Fin grid2.N, win2_0.index t = ![t.val / 8, 0, 0] ∧ win2_1.index t = ![t.val / 8, 0, 0]
    ∧ win2_2.index t = ![t.val / 8, t.val % 8, 0] ∧ win2_3.index t = ![t.val / 8, t.val % 8, 0]
    ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0] ∧ win2_11.index t = ![0, 0]
    ∧ win2_12.index t = ![t.val / 8, t.val % 8, 0, 0] ∧ win2_13.index t = ![t.val / 8, t.val % 8, 0]
    ∧ k2_off1 (grid2.coords t) = ![0, 128 * (t.val % 8), 128] ∧ k2_off2 (grid2.coords t) = ![0, 128 * (t.val % 8), 0] := by
  decide +kernel

/-- What the third region finds in its input arrays. -/
structure Entry (I : Inp) : Prop where
  res : ∀ b n j, V c main_arg2 (ix3 b n j) = (I.f b n j : EReal)
  feat : ∀ (b : Fin 8) (n : Fin 1024) (j : Fin 128), V c main_call0_v5 (ix3 b n (⟨j.val, by omega⟩ : Fin 136)) = (I.f b n j : EReal)
  xyz : ∀ (b : Fin 8) (n : Fin 1024) (j : Fin 8), V c main_call0_v5 (ix3 b n (⟨128 + j.val, by omega⟩ : Fin 136)) = (xpad I b n j : EReal)
  q : ∀ b n j, V c main_call0_v1_0 (ix3 b n j) = (I.proj b n I.wq j : EReal)
  idx : ∀ b n k, V c main_call0_v2 (ix3 b n k) = BitVec.ofNat 32 (I.near b n k).val
  ohp : ∀ (R : Fin 2048) (p : Fin 128), V c main_call0_v19 (ix2 R p) = (if p = pnt R then 1 else 0 : EReal)
  ohpt : ∀ (p : Fin 128) (R : Fin 2048), V c main_call0_v21 (ix2 p R) = (if p = pnt R then 1 else 0 : EReal)
  wk : ∀ (i : Fin 128) (j : Fin 512), V c main_call0_v1_1 (ix2 i (⟨j.val, by omega⟩ : Fin 1024)) = ((∑ l, I.w1 i l * I.wk l j : ℝ) : EReal)
  wv : ∀ (i : Fin 128) (j : Fin 512), V c main_call0_v1_1 (ix2 i (⟨512 + j.val, by omega⟩ : Fin 1024)) = ((∑ l, I.w1 i l * I.wv l j : ℝ) : EReal)
  d1 : ∀ i j, V c main_call0_v7 (ix2 i j) = (d1pad I i j : EReal)
  d2 : ∀ i j, V c main_call0_v9 (ix2 i j) = (I.d2 i j : EReal)
  g1 : ∀ i j, V c main_call0_v8 (ix2 i j) = (I.g1 i j : EReal)
  g2 : ∀ i j, V c main_call0_v1_2 (ix2 i j) = ((I.g2 i j * ((Real.sqrt 512) * (Real.log 2))⁻¹ : ℝ) : EReal)
  fc2 : ∀ i j, V c main_call0_v10 (ix2 i j) = I.w2 i j

variable {V c}

/-- The points that a grid point of the third region works on. -/
abbrev pts (t : Fin cfg2.N) (p : Fin 128) : Fin 1024 := ⟨t.val % 8 * 128 + p.val, by omega⟩

/-- The cloud that a grid point of the third region works on. -/
abbrev cloud (t : Fin cfg2.N) : Fin 8 := ⟨t.val / 8, by have : t.val < 64 := t.isLt; omega⟩

section

variable {I : Inp} (h : Entry V c I) (t : Fin cfg2.N)

include h

/-- A block of the features. -/
theorem blk_feat (m : Fin 1024) (j : Fin 128) :
    iblk2 V c 1 t (ix3 (0 : Fin 1) m (⟨j.val, by omega⟩ : Fin 136)) = (I.f (cloud t) m j : EReal) := by
  rw [← h.feat]; blk_ext [iblk2, idx2 t]

/-- A block of the coordinates. -/
theorem blk_xyz (m : Fin 1024) (j : Fin 8) :
    iblk2 V c 1 t (ix3 (0 : Fin 1) m (⟨128 + j.val, by omega⟩ : Fin 136)) = (xpad I (cloud t) m j : EReal) := by
  rw [← h.xyz]; blk_ext [iblk2, idx2 t]

/-- A block of the neighbours. -/
theorem blk_idx (p : Fin 128) (k : Fin 16) :
    iblk2 V c 3 t (ix3 (0 : Fin 1) p k) = BitVec.ofNat 32 (I.near (cloud t) (pts t p) k).val := by
  rw [← h.idx]; blk_ext [iblk2, idx2 t]

/-- A block of the queries. -/
theorem blk_q (p : Fin 128) (j : Fin 512) :
    iblk2 V c 2 t (ix3 (0 : Fin 1) p j) = (I.proj (cloud t) (pts t p) I.wq j : EReal) := by
  rw [← h.q]; blk_ext [iblk2, idx2 t]

/-- A block of the expansion. -/
theorem blk_ohp (R : Fin 2048) (p : Fin 128) :
    iblk2 V c 4 t (ix2 R p) = (if p = pnt R then 1 else 0 : EReal) := by
  rw [← h.ohp]; blk_ext [iblk2, idx2 t]

/-- A block of the summation. -/
theorem blk_ohpt (p : Fin 128) (R : Fin 2048) :
    iblk2 V c 5 t (ix2 p R) = (if p = pnt R then 1 else 0 : EReal) := by
  rw [← h.ohpt]; blk_ext [iblk2, idx2 t]

/-- A block of the keys' weight. -/
theorem blk_wk (i : Fin 128) (j : Fin 512) :
    iblk2 V c 6 t (ix2 i (⟨j.val, by omega⟩ : Fin 1024)) = ((∑ l, I.w1 i l * I.wk l j : ℝ) : EReal) := by
  rw [← h.wk]; blk_ext [iblk2, idx2 t]

/-- A block of the values' weight. -/
theorem blk_wv (i : Fin 128) (j : Fin 512) :
    iblk2 V c 6 t (ix2 i (⟨512 + j.val, by omega⟩ : Fin 1024)) = ((∑ l, I.w1 i l * I.wv l j : ℝ) : EReal) := by
  rw [← h.wv]; blk_ext [iblk2, idx2 t]

/-- A block of the position encoding's first weight. -/
theorem blk_d1 (i : Fin 8) (j : Fin 512) :
    iblk2 V c 7 t (ix2 i j) = (d1pad I i j : EReal) := by
  rw [← h.d1]; blk_ext [iblk2, idx2 t]

/-- A block of the position encoding's second weight. -/
theorem blk_d2 (i j : Fin 512) :
    iblk2 V c 8 t (ix2 i j) = (I.d2 i j : EReal) := by
  rw [← h.d2]; blk_ext [iblk2, idx2 t]

/-- A block of the scores' first weight. -/
theorem blk_g1 (i j : Fin 512) :
    iblk2 V c 9 t (ix2 i j) = (I.g1 i j : EReal) := by
  rw [← h.g1]; blk_ext [iblk2, idx2 t]

/-- A block of the scores' second weight. -/
theorem blk_g2 (i j : Fin 512) :
    iblk2 V c 10 t (ix2 i j) = ((I.g2 i j * ((Real.sqrt 512) * (Real.log 2))⁻¹ : ℝ) : EReal) := by
  rw [← h.g2]; blk_ext [iblk2, idx2 t]

/-- A block of the last layer's weight. -/
theorem blk_fc2 (i : Fin 512) (j : Fin 128) :
    iblk2 V c 11 t (ix2 i j) = I.w2 i j := by
  rw [← h.fc2]; blk_ext [iblk2, idx2 t]

/-- A block of the features to be added. -/
theorem blk_res (m : Fin 1024) (j : Fin 128) :
    iblk2 V c 0 t (ix3 (0 : Fin 1) m j) = (I.f (cloud t) m j : EReal) := by
  rw [← h.res]; blk_ext [iblk2, idx2 t]

end

/-- At every grid point the operands hold what the body's proof asks of them. -/
theorem blocks {I : Inp} (h : Entry V c I) (t : Fin cfg2.N) (h1 h2) :
    Blocks I (cloud t) (pts t) (iblk2 V c 1 t) (iblk2 V c 3 t) (iblk2 V c 2 t) (iblk2 V c 4 t) (iblk2 V c 5 t)
      (View.ld (iblk2 V c 1 t) (Rect.unit (s := S1x1024x136) (k2_off1 (grid2.coords t)) S1x128x8.size h1))
      (iblk2 V c 6 t) (iblk2 V c 7 t) (iblk2 V c 8 t) (iblk2 V c 9 t) (iblk2 V c 10 t)
      (View.ld (iblk2 V c 0 t) (Rect.unit (s := S1x1024x128) (k2_off2 (grid2.coords t)) S1x128x128.size h2)) (iblk2 V c 11 t) where
  feat := blk_feat h t
  xyz := blk_xyz h t
  idx := blk_idx h t
  q := blk_q h t
  ohp := blk_ohp h t
  ohpt := blk_ohpt h t
  own p j := by
    refine (View.ld_unit_apply_of _ _ _ _ _ (ix3 (0 : Fin 1) (pts t p) (⟨128 + j.val, by omega⟩ : Fin 136)) ?_).trans (blk_xyz h t _ _)
    intro a
    have e := congrFun (idx2 t).2.2.2.2.2.2.2.2.2.2.2.2.2.2.1 a
    refine Eq.trans ?_ (congrArg (· + _) e.symm)
    fin_cases a <;> simp [ix3]
    omega
  wk := blk_wk h t
  wv := blk_wv h t
  d1 := blk_d1 h t
  d2 := blk_d2 h t
  g1 := blk_g1 h t
  g2 := blk_g2 h t
  res p j := by
    refine (View.ld_unit_apply_of _ _ _ _ _ (ix3 (0 : Fin 1) (pts t p) j) ?_).trans (blk_res h t _ _)
    intro a
    have e := congrFun (idx2 t).2.2.2.2.2.2.2.2.2.2.2.2.2.2.2 a
    refine Eq.trans ?_ (congrArg (· + _) e.symm)
    fin_cases a <;> simp [ix3]
    omega
  fc2 := blk_fc2 h t

/-- The attention after the third region. -/
theorem arr12 {I : Inp} (h : Entry V c I) :
    (dat2 V c).arrAt 12 cfg2.N = fun i => (I.attn (i 0) (i 1) (i 2) (i 3) : EReal) := by
  refine (dat2 V c).arrAt_eq_of_covers 12 _ (by decide +kernel) fun t hf' y => ?_
  blk_simp; rw [after2_12]
  unfold outsAt2
  frame_out
  refine (congrArg _ (eq_ix4 (n0 := 1) (n1 := 128) (n2 := 16) (n3 := 512) y)).trans
    ((congrArg _ (congrArg (fun a => ix4 a _ _ _) (Subsingleton.elim _ _))).trans
    ((pay13_read (blocks h t (k2_off1_inb _) (k2_off2_inb _)) _ _ _).trans ?_))
  have e0 : ((win2_12.blk t).view.emb y 0 : Fin 8) = cloud t := by
    apply Fin.ext; blk_simp [idx2 t]
  have e1 : ((win2_12.blk t).view.emb y 1 : Fin 1024) = pts t (y 1) := by
    apply Fin.ext; blk_simp [idx2 t]
  have e2 : ((win2_12.blk t).view.emb y 2 : Fin 16) = y 2 := by
    apply Fin.ext; blk_simp [idx2 t]
  have e3 : ((win2_12.blk t).view.emb y 3 : Fin 512) = y 3 := by
    apply Fin.ext; blk_simp [idx2 t]
  rw [e0, e1, e2, e3]

/-- The result after the third region. -/
theorem arr13 {I : Inp} (h : Entry V c I) :
    (dat2 V c).arrAt 13 cfg2.N = fun i => I.out (i 0) (i 1) (i 2) := by
  refine (dat2 V c).arrAt_eq_of_covers 13 _ (by decide +kernel) fun t hf' y => ?_
  blk_simp; rw [after2_13]
  unfold outsAt2
  frame_out
  refine (congrArg _ (eq_ix3 (n0 := 1) (n1 := 128) (n2 := 128) y)).trans
    ((congrArg _ (congrArg (fun a => ix3 a _ _) (Subsingleton.elim _ _))).trans
    ((pay1_read (blocks h t (k2_off1_inb _) (k2_off2_inb _)) _ _).trans ?_))
  have e0 : ((win2_13.blk t).view.emb y 0 : Fin 8) = cloud t := by
    apply Fin.ext; blk_simp [idx2 t]
  have e1 : ((win2_13.blk t).view.emb y 1 : Fin 1024) = pts t (y 1) := by
    apply Fin.ext; blk_simp [idx2 t]
  have e2 : ((win2_13.blk t).view.emb y 2 : Fin 128) = y 2 := by
    apply Fin.ext; blk_simp [idx2 t]
  rw [e0, e1, e2]

end Cert.Main
-- ==== Proof.Host.lean ====
module

public import proofs.«01_k».proof.Proof.Main
public import proofs.«01_k».proof.Proof.Gen.KernelIdeal.Frame
public import Idealize.ShloMosaic.Lib.StableHlo.ReadAt

@[expose] public section

set_option maxRecDepth 16384

noncomputable section

namespace Cert.Host

open Idealize.ShloMosaic Idealize.ShloMosaic.TcCoe Cert.KernelIdeal Cert.KernelIdeal.Gen Cert.Model Cert.Main

variable (W : Valuation τ sig (Elt Ideal))

/-- A comparison bit made a number. -/
theorem bit_val (R : Fin 2048) (p : Fin 128) :
    (FloatOps.uitofp FTy.f32 (IntOp.cmpi CmpIPredicate.eq (IntOp.addi (BitVec.ofNat 32 (R.val / 16)) 0#32) (BitVec.ofNat 32 p.val)) : Ideal .f32)
      = if p = pnt R then (1 : EReal) else 0 := by
  have e0 : IntOp.addi (BitVec.ofNat 32 (R.val / 16)) 0#32 = BitVec.ofNat 32 (R.val / 16) := by simp [IntOp.addi]
  rw [e0]
  by_cases e : p = pnt R
  · rw [if_pos e, e]
    simp [IntOp.cmpi, FloatOps.uitofp, pnt]
  · have hb : ((BitVec.ofNat 32 (R.val / 16)) == BitVec.ofNat 32 p.val) = false := by
      refine beq_eq_false_iff_ne.mpr fun h => e ?_
      have h' := congrArg BitVec.toNat h
      rw [BitVec.toNat_ofNat, BitVec.toNat_ofNat, Nat.mod_eq_of_lt (by omega), Nat.mod_eq_of_lt (by omega)] at h'
      exact Fin.ext h'.symm
    rw [if_neg e]
    simp [IntOp.cmpi, FloatOps.uitofp, hb]

/-- The integer zero, converted to a float, is zero. -/
theorem int_zero : (FloatOps.sitofp FTy.f32 (0#32) : Ideal .f32) = (0 : EReal) := by
  simp [FloatOps.sitofp]

/-- The keys' weight stands on the left. -/
theorem v0_left (i j : Fin 512) : StableHlo.after hostOps0 W (Proc.devRef .tc main_call0_v0) (ix2 i (⟨j.val, by omega⟩ : Fin 1024))
    = W (Proc.devRef .tc main_arg16) (ix2 i j) := by
  after_reads_at
  rfl

/-- The values' weight stands on the right. -/
theorem v0_right (i j : Fin 512) : StableHlo.after hostOps0 W (Proc.devRef .tc main_call0_v0) (ix2 i (⟨512 + j.val, by omega⟩ : Fin 1024))
    = W (Proc.devRef .tc main_arg17) (ix2 i j) := by
  after_reads_at
  rfl

/-- The features stand first in the joined array. -/
theorem v5_feat (b : Fin 8) (n : Fin 1024) (j : Fin 128) : StableHlo.after hostOps2 W (Proc.devRef .tc main_call0_v5) (ix3 b n (⟨j.val, by omega⟩ : Fin 136))
    = W (Proc.devRef .tc main_arg2) (ix3 b n j) := by
  after_reads_at
  after_reads_simp

/-- The padded coordinates stand behind them. -/
theorem v5_xyz (b : Fin 8) (n : Fin 1024) (j : Fin 8) : StableHlo.after hostOps2 W (Proc.devRef .tc main_call0_v5) (ix3 b n (⟨128 + j.val, by omega⟩ : Fin 136))
    = if h : j.val < 3 then (W (Proc.devRef .tc main_arg0) (ix3 b n (⟨j.val, h⟩ : Fin 3)) : EReal) else (0 : EReal) := by
  after_reads_at
  after_reads_at
  rw [int_zero]

/-- The expansion of points to rows. -/
theorem v19_read (R : Fin 2048) (p : Fin 128) : StableHlo.after hostOps2 W (Proc.devRef .tc main_call0_v19) (ix2 R p)
    = if p = pnt R then (1 : EReal) else (0 : EReal) := by
  after_reads_at
  exact bit_val R p

/-- The same, transposed. -/
theorem v21_read (p : Fin 128) (R : Fin 2048) : StableHlo.after hostOps2 W (Proc.devRef .tc main_call0_v21) (ix2 p R)
    = if p = pnt R then (1 : EReal) else (0 : EReal) := by
  after_reads_at
  exact bit_val R p

/-- The padded first weight of the position encoding. -/
theorem v7_read (i : Fin 8) (j : Fin 512) : StableHlo.after hostOps2 W (Proc.devRef .tc main_call0_v7) (ix2 i j)
    = if h : i.val < 3 then (W (Proc.devRef .tc main_arg11) (ix2 (⟨i.val, h⟩ : Fin 3) j) : EReal) else (0 : EReal) := by
  after_reads_at
  rw [int_zero]

/-- The other weights are only rounded. -/
theorem v9_read (i j : Fin 512) : StableHlo.after hostOps2 W (Proc.devRef .tc main_call0_v9) (ix2 i j)
    = W (Proc.devRef .tc main_arg13) (ix2 i j) := by
  after_reads_at

/-- The first attention weight passes the host code unchanged. -/
theorem v8_read (i j : Fin 512) : StableHlo.after hostOps2 W (Proc.devRef .tc main_call0_v8) (ix2 i j)
    = W (Proc.devRef .tc main_arg7) (ix2 i j) := by
  after_reads_at

/-- The last layer's weight passes the host code unchanged. -/
theorem v10_read (i : Fin 512) (j : Fin 128) : StableHlo.after hostOps2 W (Proc.devRef .tc main_call0_v10) (ix2 i j)
    = W (Proc.devRef .tc main_arg5) (ix2 i j) := by
  after_reads_at

end Cert.Host
-- ==== Proof.KerRun.lean ====
module

public import proofs.«01_k».proof.Proof.Args
public import proofs.«01_k».proof.Proof.Prep
public import proofs.«01_k».proof.Proof.KnnRun
public import proofs.«01_k».proof.Proof.MainRun
public import proofs.«01_k».proof.Proof.Host

@[expose] public section

set_option maxRecDepth 16384

noncomputable section

namespace Cert.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Model

local notation "𝕄" => MT nD τ sig Unit (Elt Ideal) ℕ (UR sig nD τ) ℕ

variable (m : (ℓ : Loc nD τ sig) → Buf (Elt Ideal) ℓ) (ρ : Dev nD → PrngReg) {I : Inp} {c : Dev nD}

/-- The kernel's argument arrays hold the numbers `I`. -/
abbrev Holds (I : Inp) (c : Dev nD) : Prop :=
  Args I (m ((c : Thread nD τ).loc main_arg0)) (m ((c : Thread nD τ).loc main_arg2)) (m ((c : Thread nD τ).loc main_arg3))
    (m ((c : Thread nD τ).loc main_arg5)) (m ((c : Thread nD τ).loc main_arg7)) (m ((c : Thread nD τ).loc main_arg9))
    (m ((c : Thread nD τ).loc main_arg11)) (m ((c : Thread nD τ).loc main_arg13)) (m ((c : Thread nD τ).loc main_arg15))
    (m ((c : Thread nD τ).loc main_arg16)) (m ((c : Thread nD τ).loc main_arg17))

/-- The keys' and the values' weight side by side. -/
def wkv (I : Inp) (l : Fin 512) (j : Fin 1024) : ℝ :=
  if h : j.val < 512 then I.wk l ⟨j.val, h⟩ else I.wv l ⟨j.val - 512, by omega⟩

/-- The two weights side by side, as the first region finds them. -/
theorem joined (h : Holds m I c) (l : Fin 512) (j : Fin 1024) : V1 m ρ c main_call0_v0 (ix2 l j) = (wkv I l j : EReal) := by
  unfold wkv
  split_ifs with hj
  · exact (Host.v0_left (W0 m ρ c) l ⟨j.val, hj⟩).trans (h.wk l ⟨j.val, hj⟩)
  · have e : j = (⟨512 + (⟨j.val - 512, by omega⟩ : Fin 512).val, by simp only; omega⟩ : Fin 1024) := Fin.ext (by simp only; omega)
    refine (congrArg (fun x => V1 m ρ c main_call0_v0 (ix2 l x)) e).trans ?_
    exact (Host.v0_right (W0 m ρ c) l ⟨j.val - 512, by omega⟩).trans (h.wv l _)

/-- The queries when the third region starts. -/
theorem queries (h : Holds m I c) : V4 m ρ c main_call0_v1_0 = fun i => (I.proj (i 0) (i 1) I.wq (i 2) : EReal) :=
  (W4_of m ρ c main_call0_v1_0 (by decide)).trans ((W3_of m ρ c main_call0_v1_0 (by decide)).trans ((W2_arr m ρ c 5).trans
    (Prep.arr5 (V1 m ρ) c I (fun b n j => (congrFun (W1_args m ρ c main_arg2 (by decide)) _).trans (h.f b n j))
      (fun i j => (congrFun (W1_args m ρ c main_arg3 (by decide)) _).trans (h.w1 i j))
      (fun i j => (congrFun (W1_args m ρ c main_arg15 (by decide)) _).trans (h.wq i j)))))

/-- The keys' and values' weights when the third region starts. -/
theorem weights (h : Holds m I c) : V4 m ρ c main_call0_v1_1 = fun i => ((∑ l, I.w1 (i 0) l * wkv I l (i 1) : ℝ) : EReal) :=
  (W4_of m ρ c main_call0_v1_1 (by decide)).trans ((W3_of m ρ c main_call0_v1_1 (by decide)).trans ((W2_arr m ρ c 6).trans
    (Prep.arr6 (V1 m ρ) c I (wkv I) (fun i j => (congrFun (W1_args m ρ c main_arg3 (by decide)) _).trans (h.w1 i j))
      (joined m ρ h))))

/-- The scores' scaled weight when the third region starts. -/
theorem scaled (h : Holds m I c) : V4 m ρ c main_call0_v1_2 = fun i => ((I.g2 (i 0) (i 1) * Prep.scale : ℝ) : EReal) :=
  (W4_of m ρ c main_call0_v1_2 (by decide)).trans ((W3_of m ρ c main_call0_v1_2 (by decide)).trans ((W2_arr m ρ c 7).trans
    (Prep.arr7 (V1 m ρ) c I (fun i j => (congrFun (W1_args m ρ c main_arg9 (by decide)) _).trans (h.g2 i j)))))

/-- The neighbours when the third region starts. -/
theorem neighbours (h : Holds m I c) : V4 m ρ c main_call0_v2 = fun i => BitVec.ofNat 32 (I.near (i 0) (i 1) (i 2)).val :=
  (W4_of m ρ c main_call0_v2 (by decide)).trans ((W3_arr m ρ c 1).trans
    (Knn.arr1 (V2 m ρ) c I (fun b n j => (congrFun (W2_args m ρ c main_arg0 (by decide)) _).trans (h.X b n j))))

/-- What the third region starts from. -/
theorem entry (h : Holds m I c) : Main.Entry (V4 m ρ) c I where
  res b n j := (congrFun (W4_args m ρ c main_arg2 (by decide)) _).trans (h.f b n j)
  feat b n j := (Host.v5_feat (W3 m ρ c) b n j).trans ((congrFun (W3_args m ρ c main_arg2 (by decide)) _).trans (h.f b n j))
  xyz b n j := by
    refine (Host.v5_xyz (W3 m ρ c) b n j).trans ?_
    unfold Main.xpad
    split_ifs with hj
    · exact (congrFun (W3_args m ρ c main_arg0 (by decide)) _).trans (h.X b n ⟨j.val, hj⟩)
    · exact EReal.coe_zero.symm
  q b n j := congrFun (queries m ρ h) (ix3 b n j)
  idx b n k := congrFun (neighbours m ρ h) (ix3 b n k)
  ohp R p := Host.v19_read (W3 m ρ c) R p
  ohpt p R := Host.v21_read (W3 m ρ c) p R
  wk i j := by
    refine (congrFun (weights m ρ h) (ix2 i (⟨j.val, by omega⟩ : Fin 1024))).trans ?_
    refine congrArg (fun x : ℝ => (x : EReal)) (Finset.sum_congr rfl fun l _ => ?_)
    have e : wkv I l ⟨j.val, by omega⟩ = I.wk l j := by unfold wkv; rw [dif_pos j.isLt]
    exact congrArg (_ * ·) e
  wv i j := by
    refine (congrFun (weights m ρ h) (ix2 i (⟨512 + j.val, by omega⟩ : Fin 1024))).trans ?_
    refine congrArg (fun x : ℝ => (x : EReal)) (Finset.sum_congr rfl fun l _ => ?_)
    have e : wkv I l ⟨512 + j.val, by omega⟩ = I.wv l j := by
      unfold wkv
      rw [dif_neg (by simp)]
      exact congrArg (I.wv l) (Fin.ext (by simp))
    exact congrArg (_ * ·) e
  d1 i j := by
    refine (Host.v7_read (W3 m ρ c) i j).trans ?_
    unfold Main.d1pad
    split_ifs with hi
    · exact (congrFun (W3_args m ρ c main_arg11 (by decide)) _).trans (h.d1 ⟨i.val, hi⟩ j)
    · exact EReal.coe_zero.symm
  d2 i j := (Host.v9_read (W3 m ρ c) i j).trans ((congrFun (W3_args m ρ c main_arg13 (by decide)) _).trans (h.d2 i j))
  g1 i j := (Host.v8_read (W3 m ρ c) i j).trans ((congrFun (W3_args m ρ c main_arg7 (by decide)) _).trans (h.g1 i j))
  g2 i j := congrFun (scaled m ρ h) (ix2 i j)
  fc2 i j := (Host.v10_read (W3 m ρ c) i j).trans ((congrFun (W3_args m ρ c main_arg5 (by decide)) _).trans (h.w2 i j))

/-- Every run of the kernel ends with the attention and the result in its two result arrays and the arguments unchanged. -/
theorem run (I : Dev nD → Inp) (hI : ∀ c, Holds m (I c) c) :
    θ_run defs (onTc (τ := τ) (main (F := Ideal))) ⟨m, fun _ => 0, ρ⟩ (fun r => ∀ c : Dev nD,
      r.2.mem ((c.tc : Thread nD τ).loc main_v0_0) = (fun i => (I c).out (i 0) (i 1) (i 2))
      ∧ r.2.mem ((c.tc : Thread nD τ).loc main_v0_1) = (fun i => ((I c).attn (i 0) (i 1) (i 2) (i 3) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v0_0 (by decide))).trans ((W5_arr m ρ c 13).trans (Main.arr13 (entry m ρ (hI c)))),
       (h c _ (mem_uc main_v0_1 (by decide))).trans ((W5_arr m ρ c 12).trans (Main.arr12 (entry m ρ (hI c)))),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.Ker
-- ==== Proof.Gather.lean ====
module

public import proofs.«01_k».proof.Proof.Args
public import Idealize.ShloMosaic.Lib.StableHlo.Predicate

@[expose] public section

noncomputable section

namespace Cert.Ref

open Idealize.ShloMosaic

/-- A gather that reads, at each pair of an index array, a row of a batch of tables: where the pair at `(b, n, k)` is
the batch `b'` and the row `p`, it reads row `p` of table `b'`. -/
theorem gather_pts {α : Type} {C : Nat}
    (d : GatherDims (⟨3, ![8, 1024, C]⟩ : Shape) (⟨4, ![8, 1024, 16, 2]⟩ : Shape) (⟨4, ![8, 1024, 16, C]⟩ : Shape))
    (h1 : d.offsetDims = [3]) (h2 : d.collapsedSliceDims = [0, 1]) (h3 : d.operandBatchingDims = [])
    (h4 : d.startIndicesBatchingDims = []) (h5 : d.startIndexMap = [0, 1]) (h6 : d.indexVectorDim = 3)
    (h7 : d.sliceSizes = ![1, 1, C]) (x : (⟨3, ![8, 1024, C]⟩ : Shape).Idx → α) (idx : IVec (⟨4, ![8, 1024, 16, 2]⟩ : Shape) 32)
    (b b' : Fin 8) (n p : Fin 1024) (k : Fin 16) (j : Fin C) (hb : idx (ix4 b n k (0 : Fin 2)) = BitVec.ofNat 32 b'.val)
    (hp : idx (ix4 b n k (1 : Fin 2)) = BitVec.ofNat 32 p.val) :
    Host.gather d x idx (ix4 b n k j) = x (ix3 b' p j) := by
  obtain ⟨od, cd, ob, sb, sm, iv, ss, wf⟩ := d
  dsimp only at h1 h2 h3 h4 h5 h6 h7
  subst h1 h2 h3 h4 h5 h6 h7
  unfold Host.gather
  refine congrArg x (funext fun a => Fin.ext ?_)
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  have hbl := b'.isLt
  have hpl := p.isLt
  match a with
  | ⟨0, _⟩ =>
    show GatherDims.start _ _ idx 0 + GatherDims.batchCoord _ _ 0 + GatherDims.offCoord _ _ 0 = b'.val
    rw [GatherDims.batchCoord_eq_zero _ _ _ List.not_mem_nil,
      GatherDims.offCoord_eq_zero _ _ _ fun h => ((GatherDims.mem_sKept _ _).1 h).1 m0]
    unfold GatherDims.start
    rw [dif_pos m0]
    have e : GatherDims.siIdx (s := (⟨3, ![8, 1024, C]⟩ : Shape)) ⟨[3], [0, 1], [], [], [0, 1], 3, ![1, 1, C], wf⟩ (ix4 b n k j)
        ⟨0, Nat.zero_lt_two⟩ = ix4 b n k (0 : Fin 2) := by
      funext q
      match q with
      | ⟨0, _⟩ => rfl
      | ⟨1, _⟩ => rfl
      | ⟨2, _⟩ => rfl
      | ⟨3, _⟩ => rfl
    have e' : idx (GatherDims.siIdx (s := (⟨3, ![8, 1024, C]⟩ : Shape)) ⟨[3], [0, 1], [], [], [0, 1], 3, ![1, 1, C], wf⟩ (ix4 b n k j)
        ⟨0, Nat.zero_lt_two⟩) = BitVec.ofNat 32 b'.val := (congrArg idx e).trans hb
    refine (congrArg (fun w : BitVec 32 => min w.toInt.toNat (8 - 1) + 0 + 0) e').trans ?_
    show min (BitVec.ofNat 32 b'.val).toInt.toNat (8 - 1) + 0 + 0 = b'.val
    rw [StableHlo.Predicate.toInt_ofNat_small _ (by omega)]
    omega
  | ⟨1, _⟩ =>
    show GatherDims.start _ _ idx 1 + GatherDims.batchCoord _ _ 1 + GatherDims.offCoord _ _ 1 = p.val
    rw [GatherDims.batchCoord_eq_zero _ _ _ List.not_mem_nil,
      GatherDims.offCoord_eq_zero _ _ _ fun h => ((GatherDims.mem_sKept _ _).1 h).1 m1]
    unfold GatherDims.start
    rw [dif_pos m1]
    have e : GatherDims.siIdx (s := (⟨3, ![8, 1024, C]⟩ : Shape)) ⟨[3], [0, 1], [], [], [0, 1], 3, ![1, 1, C], wf⟩ (ix4 b n k j)
        ⟨1, Nat.one_lt_two⟩ = ix4 b n k (1 : Fin 2) := by
      funext q
      match q with
      | ⟨0, _⟩ => rfl
      | ⟨1, _⟩ => rfl
      | ⟨2, _⟩ => rfl
      | ⟨3, _⟩ => rfl
    have e' : idx (GatherDims.siIdx (s := (⟨3, ![8, 1024, C]⟩ : Shape)) ⟨[3], [0, 1], [], [], [0, 1], 3, ![1, 1, C], wf⟩ (ix4 b n k j)
        ⟨1, Nat.one_lt_two⟩) = BitVec.ofNat 32 p.val := (congrArg idx e).trans hp
    refine (congrArg (fun w : BitVec 32 => min w.toInt.toNat (1024 - 1) + 0 + 0) e').trans ?_
    show min (BitVec.ofNat 32 p.val).toInt.toNat (1024 - 1) + 0 + 0 = p.val
    rw [StableHlo.Predicate.toInt_ofNat_small _ (by omega)]
    omega
  | ⟨2, _⟩ =>
    show GatherDims.start _ _ idx 2 + GatherDims.batchCoord _ _ 2 + GatherDims.offCoord _ _ 2 = j.val
    rw [GatherDims.batchCoord_eq_zero _ _ _ List.not_mem_nil]
    unfold GatherDims.start GatherDims.offCoord
    rw [dif_neg m2, dif_pos ((GatherDims.mem_sKept _ _).2 ⟨m2, List.not_mem_nil⟩), Nat.zero_add]
    rfl

end Cert.Ref

end
-- ==== Proof.RefIdx.lean ====
module

public import proofs.«01_k».proof.Proof.Gather
public import proofs.«01_k».proof.Proof.Gen.ReferenceIdeal.Read

@[expose] public section

set_option maxRecDepth 16384

noncomputable section

namespace Cert.Ref

open Idealize.ShloMosaic Cert.Model Cert.ReferenceIdeal Cert.ReferenceIdeal.Gen Cert.ReferenceIdeal.Read

/-- The word of the float -2 reads as that number. -/
theorem ofBits_neg_two : Ideal.ofBits .f32 0xC0000000#32 = ((-2 : ℝ) : EReal) := by
  simp [Ideal.ofBits, Ideal.ieee, -EReal.coe_mul]; norm_num

/-- The reference's distances. -/
theorem v12_eq (I : Inp) (x0 : S8x1024x3.Idx → EReal) (hX : ∀ b n c, x0 (ix3 b n c) = (I.X b n c : EReal))
    (b : Fin 8) (n p : Fin 1024) : val_main_v12 (F := Ideal) x0 (ix3 b n p) = (I.dist b n p : EReal) := by
  have h : val_main_v12 (F := Ideal) x0 (ix3 b n p) =
      Ideal.ofBits .f32 0xC0000000#32 * (∑ c, x0 (ix3 b n c) * x0 (ix3 b p c)) +
        (0 + ∑ c, x0 (ix3 b n c) * x0 (ix3 b n c)) + (0 + ∑ c, x0 (ix3 b p c) * x0 (ix3 b p c)) := by
    pointwise [val_main_v12, val_main_v11, val_main_v10, val_main_v9, val_main_v8, val_main_v7, val_main_v6, val_main_v5,
      val_main_v4, val_main_v3, val_main_v2, val_main_v1, val_main_v0, val_main_cst, val_main_cst_0, val_main_cst_1,
      Ideal.ofBits_zero_f32]
  rw [h, ofBits_neg_two]
  simp only [hX, dot_coe, zero_add, ← EReal.coe_mul, ← EReal.coe_add]
  rfl

/-- The order that the reference sorts by, on real keys. -/
theorem comparator_eq (x y : ℝ) (u v : BitVec 32) :
    (comparator_f32_i32_d2 (F := Ideal) ((x : EReal), u) ((y : EReal), v) == 1#1) = decide (x < y) := by
  have hs : ∀ z : ℝ, Scalar.select (FloatOps.cmpf (F := Ideal) (φ := .f32) .une (z : EReal) (z : EReal))
      (FloatOps.ofBits (F := Ideal) .f32 0x7FC00000#32)
      (Scalar.select (FloatOps.cmpf (F := Ideal) (φ := .f32) .oeq (z : EReal) (FloatOps.ofBits (F := Ideal) .f32 0x00000000#32))
        (FloatOps.ofBits (F := Ideal) .f32 0x00000000#32) (z : EReal)) = (z : EReal) := by
    intro z
    have h0 : FloatOps.ofBits (F := Ideal) .f32 0x00000000#32 = (0 : EReal) := Ideal.ofBits_zero_f32
    rw [h0]
    simp only [Ideal.cmpf_def, Ideal.cmp, Scalar.select]
    by_cases hz : (z : EReal) = 0
    · simp [hz]
    · simp [hz]
  show (FloatOps.cmpfTotal (F := Ideal) (φ := .f32) .lt _ _ == 1#1) = _
  rw [hs x, hs y, Ideal.cmpfTotal_def, show CmpDirection.lt.ordered = CmpFPredicate.olt from rfl]
  by_cases h : x < y
  · simp [Ideal.cmp, h]
  · simp [Ideal.cmp, h]

/-- A sort of two arrays along the last axis, read at an index. -/
theorem sort_read {α β : Type} (cmp : α × β → α × β → BitVec 1) (x : S8x1024x1024.Idx → α) (y : S8x1024x1024.Idx → β)
    (b : Fin 8) (n r : Fin 1024) :
    (Host.sort2 S8x1024x1024 2 cmp x y).2 (ix3 b n r) = y (ix3 b n (sortedFrom
      (fun p q : Fin 1024 => cmp (x (ix3 b n p), y (ix3 b n p)) (x (ix3 b n q), y (ix3 b n q)) == 1#1) r)) := by
  have hal : ∀ r' : Fin 1024, Shape.Idx.along (s := S8x1024x1024) (ix3 b n r) (2 : Fin 3) r' = ix3 b n r' := by
    intro r'
    funext a
    match a with
    | ⟨0, _⟩ => rfl
    | ⟨1, _⟩ => rfl
    | ⟨2, _⟩ => rfl
  unfold Host.sort2
  rw [dif_pos (show 2 < S8x1024x1024.rank by decide)]
  refine congrArg y ((hal _).trans (congrArg (fun p : Fin 1024 => ix3 b n p) ?_))
  refine congrFun (congrArg (sortedFrom (n := 1024)) ?_) _
  funext p q
  exact congrArg₂ (fun i j => cmp (x i, y i) (x j, y j) == 1#1) (hal p) (hal q)

/-- The reference's sorted positions begin with the nearest points. -/
theorem v14_eq (I : Inp) (x0 : S8x1024x3.Idx → EReal) (hX : ∀ b n c, x0 (ix3 b n c) = (I.X b n c : EReal))
    (b : Fin 8) (n : Fin 1024) (k : Fin 16) :
    val_main_v14 (F := Ideal) x0 (ix3 b n k) = BitVec.ofNat 32 (I.near b n k).val := by
  have hi : idx_main_v14 (ix3 b n k) = ix3 b n (k.castLE (by decide : 16 ≤ 1024)) := by
    funext a
    match a with
    | ⟨0, _⟩ => rfl
    | ⟨1, _⟩ => rfl
    | ⟨2, _⟩ => rfl
  rw [val_main_v14_apply, hi]
  unfold val_main_v13
  rw [sort_read, val_main_call0_v0_apply]
  refine congrArg (fun p : Fin 1024 => BitVec.ofNat 32 p.val) ?_
  refine sortedFrom_nearest (I.dist b n) _ (fun p q => ?_) (by decide : 16 ≤ 1024) _ (I.near_nearest b n) k
  rw [v12_eq I x0 hX, v12_eq I x0 hX, comparator_eq]

/-- A small word read as a signed integer is not negative. -/
theorem slt_small (r : Nat) (hr : r < 1024) : IntOp.cmpi .slt (BitVec.ofNat 32 r) 0#32 = 0#1 := by
  have h : ¬ ((BitVec.ofNat 32 r).slt 0#32 = true) := by
    rw [BitVec.slt_iff_toInt_lt, StableHlo.Predicate.toInt_ofNat_small _ (by omega)]
    simp
  simp [IntOp.cmpi, h]

/-- An index array of pairs: the cloud, and the nearest point. -/
structure Pairs (I : Inp) (idx : (⟨4, ![8, 1024, 16, 2]⟩ : Shape).Idx → BitVec 32) : Prop where
  cloud : ∀ (b : Fin 8) (n : Fin 1024) (k : Fin 16), idx (ix4 b n k (0 : Fin 2)) = BitVec.ofNat 32 b.val
  point : ∀ (b : Fin 8) (n : Fin 1024) (k : Fin 16), idx (ix4 b n k (1 : Fin 2)) = BitVec.ofNat 32 (I.near b n k).val

/-- The first gather's index array. -/
theorem v30_pairs (I : Inp) (x0 : S8x1024x3.Idx → EReal) (hX : ∀ b n c, x0 (ix3 b n c) = (I.X b n c : EReal)) :
    Pairs I (val_main_v30 (F := Ideal) x0) where
  cloud b n k := by
    have h : val_main_v30 (F := Ideal) x0 (ix4 b n k (0 : Fin 2)) =
        Scalar.select (IntOp.cmpi .slt (BitVec.ofNat 32 b.val) 0#32) (IntOp.addi (BitVec.ofNat 32 b.val) 8#32) (BitVec.ofNat 32 b.val) := by
      unfold val_main_v30
      generalize val_main_v29 (F := Ideal) x0 = y
      pointwise [val_main_v28, val_main_v27, val_main_v21, val_main_v20, val_main_v19, val_main_v18, val_main_v17,
        val_main_v16, val_main_v15, val_main_c, val_main_c_2]
    rw [h, slt_small _ (by omega)]
    rfl
  point b n k := by
    have h : val_main_v30 (F := Ideal) x0 (ix4 b n k (1 : Fin 2)) =
        Scalar.select (IntOp.cmpi .slt (val_main_v14 (F := Ideal) x0 (ix3 b n k)) 0#32)
          (IntOp.addi (val_main_v14 (F := Ideal) x0 (ix3 b n k)) 1024#32) (val_main_v14 (F := Ideal) x0 (ix3 b n k)) := by
      unfold val_main_v30
      generalize val_main_v28 (F := Ideal) = y
      unfold val_main_v29 val_main_v26 val_main_v25 val_main_v23
      generalize val_main_v14 (F := Ideal) x0 = z
      pointwise [val_main_v24, val_main_v22, val_main_c_3, val_main_c_4]
    rw [h, v14_eq I x0 hX, slt_small _ (by omega)]
    rfl

end Cert.Ref

end
-- ==== Proof.RefValue.lean ====
module

public import proofs.«01_k».proof.Proof.RefIdx

@[expose] public section

set_option maxRecDepth 16384

noncomputable section

namespace Cert.Ref

open Idealize.ShloMosaic Cert.Model Cert.ReferenceIdeal Cert.ReferenceIdeal.Gen Cert.ReferenceIdeal.Read

/-- The first layer. -/
theorem v35_eq {I : Inp} {x2 : S8x1024x128.Idx → EReal} {x3 : S128x512.Idx → EReal} {x4 : S512.Idx → EReal}
    (hf : ∀ b n c, x2 (ix3 b n c) = (I.f b n c : EReal)) (hw : ∀ i j, x3 (ix2 i j) = (I.w1 i j : EReal))
    (h4 : ∀ j, x4 (ix1 j) = 0) (b : Fin 8) (n : Fin 1024) (j : Fin 512) :
    val_main_v35 (F := Ideal) x2 x3 x4 (ix3 b n j) = (I.x b n j : EReal) := by
  pointwise [val_main_v35, val_main_v34, val_main_v33, val_main_v32]
  simp only [hf, hw, h4, dot_coe, add_zero]
  rfl

/-- A maximum over the neighbours, read at an index. -/
theorem max_read (y : FVec Ideal S8x1024x16x512 .f32) (c : FVec Ideal S_ .f32) (b : Fin 8) (n : Fin 1024) (j : Fin 512) :
    Host.reduce FloatOps.maximumf y c reducesTo_S8x1024x16x512_S8x1024x512_d2 h_S_ (ix3 b n j)
      = Finset.univ.fold max (c (Shape.Idx.first h_S_)) fun k : Fin 16 => y (ix4 b n k j) := by
  simp only [pointwise]

/-- The word of the float minus infinity reads as the least value. -/
theorem ofBits_neg_inf : Ideal.ofBits .f32 0xFF800000#32 = (⊥ : EReal) := by
  simp [Ideal.ofBits, Ideal.ieee]

/-- What the arrays of the reference hold. -/
structure Held (I : Inp) (x0 : S8x1024x3.Idx → EReal) (x2 : S8x1024x128.Idx → EReal) (x3 : S128x512.Idx → EReal)
    (x4 : S512.Idx → EReal) (x5 : S512x128.Idx → EReal) (x6 : S128.Idx → EReal) (x7 : S512x512.Idx → EReal)
    (x8 : S512.Idx → EReal) (x9 : S512x512.Idx → EReal) (x10 : S512.Idx → EReal) (x11 : S3x512.Idx → EReal)
    (x12 : S512.Idx → EReal) (x13 : S512x512.Idx → EReal) (x14 : S512.Idx → EReal)
    (x15 x16 x17 : S512x512.Idx → EReal) : Prop where
  args : Args I x0 x2 x3 x5 x7 x9 x11 x13 x15 x16 x17
  b4 : ∀ j, x4 (ix1 j) = 0
  b6 : ∀ j, x6 (ix1 j) = 0
  b8 : ∀ j, x8 (ix1 j) = 0
  b10 : ∀ j, x10 (ix1 j) = (I.g2b j : EReal)
  b12 : ∀ j, x12 (ix1 j) = 0
  b14 : ∀ j, x14 (ix1 j) = 0

variable {I : Inp} {x0 : S8x1024x3.Idx → EReal} {x2 : S8x1024x128.Idx → EReal} {x3 : S128x512.Idx → EReal}
  {x4 : S512.Idx → EReal} {x5 : S512x128.Idx → EReal} {x6 : S128.Idx → EReal} {x7 : S512x512.Idx → EReal}
  {x8 : S512.Idx → EReal} {x9 : S512x512.Idx → EReal} {x10 : S512.Idx → EReal} {x11 : S3x512.Idx → EReal}
  {x12 : S512.Idx → EReal} {x13 : S512x512.Idx → EReal} {x14 : S512.Idx → EReal} {x15 x16 x17 : S512x512.Idx → EReal}
  (H : Held I x0 x2 x3 x4 x5 x6 x7 x8 x9 x10 x11 x12 x13 x14 x15 x16 x17)

include H

/-- A square weight applied to the first layer. -/
theorem proj_read (w : S512x512.Idx → EReal) (w' : Fin 512 → Fin 512 → ℝ) (hw : ∀ i j, w (ix2 i j) = (w' i j : EReal))
    (b : Fin 8) (n : Fin 1024) (j : Fin 512) :
    val_main_v36 (F := Ideal) x2 x3 x4 w (ix3 b n j) = (I.proj b n w' j : EReal) := by
  have h := v35_eq (I := I) H.args.f H.args.w1 H.b4
  unfold val_main_v36
  revert h
  generalize val_main_v35 (F := Ideal) x2 x3 x4 = y
  intro h
  pointwise
  simp only [h, hw, dot_coe]
  rfl

/-- The queries. -/
theorem v36_eq (b : Fin 8) (n : Fin 1024) (j : Fin 512) :
    val_main_v36 (F := Ideal) x2 x3 x4 x15 (ix3 b n j) = (I.proj b n I.wq j : EReal) := proj_read H x15 I.wq H.args.wq b n j

/-- The keys. -/
theorem v37_eq (b : Fin 8) (n : Fin 1024) (j : Fin 512) :
    val_main_v37 (F := Ideal) x2 x3 x4 x16 (ix3 b n j) = (I.proj b n I.wk j : EReal) := proj_read H x16 I.wk H.args.wk b n j

/-- The values. -/
theorem v55_eq (b : Fin 8) (n : Fin 1024) (j : Fin 512) :
    val_main_v55 (F := Ideal) x2 x3 x4 x17 (ix3 b n j) = (I.proj b n I.wv j : EReal) := proj_read H x17 I.wv H.args.wv b n j

/-- The neighbours' positions. -/
theorem v31_eq (b : Fin 8) (n : Fin 1024) (k : Fin 16) (c : Fin 3) :
    val_main_v31 (F := Ideal) x0 (ix4 b n k c) = (I.X b (I.near b n k) c : EReal) := by
  have P := v30_pairs I x0 H.args.X
  unfold val_main_v31
  rw [gather_pts _ rfl rfl rfl rfl rfl rfl rfl _ _ b b n _ k c (P.cloud b n k) (P.point b n k), H.args.X]

/-- The neighbours' keys. -/
theorem v54_eq (b : Fin 8) (n : Fin 1024) (k : Fin 16) (j : Fin 512) :
    val_main_v54 (F := Ideal) x0 x2 x3 x4 x16 (ix4 b n k j) = (I.proj b (I.near b n k) I.wk j : EReal) := by
  have P : Pairs I (val_main_v53 (F := Ideal) x0) := v30_pairs I x0 H.args.X
  unfold val_main_v54
  rw [gather_pts _ rfl rfl rfl rfl rfl rfl rfl _ _ b b n _ k j (P.cloud b n k) (P.point b n k), v37_eq H]

/-- The neighbours' values. -/
theorem v72_eq (b : Fin 8) (n : Fin 1024) (k : Fin 16) (j : Fin 512) :
    val_main_v72 (F := Ideal) x0 x2 x3 x4 x17 (ix4 b n k j) = (I.proj b (I.near b n k) I.wv j : EReal) := by
  have P : Pairs I (val_main_v71 (F := Ideal) x0) := v30_pairs I x0 H.args.X
  unfold val_main_v72
  rw [gather_pts _ rfl rfl rfl rfl rfl rfl rfl _ _ b b n _ k j (P.cloud b n k) (P.point b n k), v55_eq H]

/-- The hidden layer of the position encoding. -/
theorem v80_eq (b : Fin 8) (n : Fin 1024) (k : Fin 16) (j : Fin 512) :
    val_main_v80 (F := Ideal) x0 x11 x12 (ix4 b n k j) = (I.hid b n k j : EReal) := by
  have h := v31_eq H
  unfold val_main_v80 val_main_v79 val_main_v76 val_main_v75
  revert h
  generalize val_main_v31 (F := Ideal) x0 = y
  intro h
  pointwise [val_main_v74, val_main_v73, val_main_v78, val_main_v77, val_main_call1_v0, val_main_call1_cst, Ideal.ofBits_zero_f32]
  simp only [h, H.args.X, H.args.d1, H.b12, ← EReal.coe_sub, dot_coe, add_zero, max_coe_zero]
  rfl

/-- The position encoding. -/
theorem v85_eq (b : Fin 8) (n : Fin 1024) (k : Fin 16) (j : Fin 512) :
    val_main_v85 (F := Ideal) x0 x11 x12 x13 x14 (ix4 b n k j) = (I.pos b n k j : EReal) := by
  have h := v80_eq H
  unfold val_main_v85 val_main_v84 val_main_v81
  revert h
  generalize val_main_v80 (F := Ideal) x0 x11 x12 = y
  intro h
  pointwise [val_main_v83, val_main_v82, val_main_call2_v0, val_main_call2_cst, Ideal.ofBits_zero_f32]
  simp only [h, H.args.d2, H.b14, dot_coe, add_zero, max_coe_zero]
  rfl

/-- Query minus key plus position encoding. -/
theorem v89_eq (b : Fin 8) (n : Fin 1024) (k : Fin 16) (j : Fin 512) :
    val_main_v89 (F := Ideal) x0 x2 x3 x4 x11 x12 x13 x14 x15 x16 (ix4 b n k j) = (I.arg b n k j : EReal) := by
  have h := v36_eq H
  have h' := v54_eq H
  have h'' := v85_eq H
  unfold val_main_v89 val_main_v88 val_main_v87 val_main_v86
  revert h h' h''
  generalize val_main_v36 (F := Ideal) x2 x3 x4 x15 = y
  generalize val_main_v54 (F := Ideal) x0 x2 x3 x4 x16 = y'
  generalize val_main_v85 (F := Ideal) x0 x11 x12 x13 x14 = y''
  intro h h' h''
  pointwise
  simp only [h, h', h'', ← EReal.coe_sub, ← EReal.coe_add]
  rfl

/-- The hidden layer of the scores. -/
theorem v94_eq (b : Fin 8) (n : Fin 1024) (k : Fin 16) (j : Fin 512) :
    val_main_v94 (F := Ideal) x0 x2 x3 x4 x7 x8 x11 x12 x13 x14 x15 x16 (ix4 b n k j) = (I.thr b n k j : EReal) := by
  have h := v89_eq H
  unfold val_main_v94 val_main_v93 val_main_v90
  revert h
  generalize val_main_v89 (F := Ideal) x0 x2 x3 x4 x11 x12 x13 x14 x15 x16 = y
  intro h
  pointwise [val_main_v92, val_main_v91, val_main_call3_v0, val_main_call3_cst, Ideal.ofBits_zero_f32]
  simp only [h, H.args.g1, H.b8, dot_coe, add_zero, max_coe_zero]
  rfl

omit H in
/-- The word of the float 512 reads as that number. -/
theorem ofBits_512 : Ideal.ofBits .f32 0x44000000#32 = ((512 : ℝ) : EReal) := by
  simp [Ideal.ofBits, Ideal.ieee, -EReal.coe_mul]; norm_num

omit H in
/-- The scale of the scores is not zero. -/
theorem sqrt_512_ne : Real.sqrt 512 ≠ 0 := (Real.sqrt_pos.mpr (by norm_num)).ne'

/-- The scaled scores. -/
theorem v101_eq (b : Fin 8) (n : Fin 1024) (k : Fin 16) (j : Fin 512) :
    val_main_v101 (F := Ideal) x0 x2 x3 x4 x7 x8 x9 x10 x11 x12 x13 x14 x15 x16 (ix4 b n k j)
      = (((I.score b n k j + I.g2b j) / Real.sqrt 512 : ℝ) : EReal) := by
  have h := v94_eq H
  unfold val_main_v101 val_main_v98 val_main_v95
  revert h
  generalize val_main_v94 (F := Ideal) x0 x2 x3 x4 x7 x8 x11 x12 x13 x14 x15 x16 = y
  intro h
  pointwise [val_main_v97, val_main_v96, val_main_v100, val_main_v99, val_main_cst_13]
  simp only [h, H.args.g2, H.b10, dot_coe, ofBits_512, ← EReal.coe_add]
  rw [Ideal.sqrt_coe, if_neg (by norm_num), div_coe_coe _ _ sqrt_512_ne]
  rfl

/-- The greatest scaled score of a point's neighbours is a real number. -/
theorem v104_eq (b : Fin 8) (n : Fin 1024) (j : Fin 512) : ∃ M : ℝ,
    val_main_v104 (F := Ideal) x0 x2 x3 x4 x7 x8 x9 x10 x11 x12 x13 x14 x15 x16 (ix3 b n j) = (M : EReal) := by
  obtain ⟨M, hM⟩ := fold_max_coe fun k => (I.score b n k j + I.g2b j) / Real.sqrt 512
  refine ⟨M, ?_⟩
  have hr : val_main_v102 (F := Ideal) x0 x2 x3 x4 x7 x8 x9 x10 x11 x12 x13 x14 x15 x16 (ix3 b n j) = (M : EReal) := by
    unfold val_main_v102
    refine (max_read _ _ b n j).trans ?_
    rw [show val_main_cst_14 (F := Ideal) (Shape.Idx.first h_S_) = (⊥ : EReal) from ofBits_neg_inf, ← hM]
    exact congrArg (fun f => Finset.univ.fold max (⊥ : EReal) f) (funext fun k => v101_eq H b n k j)
  have hc : val_main_v103 (F := Ideal) (ix3 b n j) = (⊥ : EReal) := by
    pointwise [val_main_v103, val_main_cst_15]
    exact ofBits_neg_inf
  rw [val_main_v104_apply, hr, hc]
  exact max_bot_left _

/-- The exponentials. -/
theorem v108_eq (b : Fin 8) (n : Fin 1024) (j : Fin 512) : ∃ M : ℝ, ∀ k : Fin 16,
    val_main_v108 (F := Ideal) x0 x2 x3 x4 x7 x8 x9 x10 x11 x12 x13 x14 x15 x16 (ix4 b n k j)
      = (Real.exp ((I.score b n k j + I.g2b j) / Real.sqrt 512 - M) : EReal) := by
  have h := v101_eq H
  obtain ⟨M, hM⟩ := v104_eq H b n j
  refine ⟨M, fun k => ?_⟩
  unfold val_main_v108 val_main_v107
  revert h hM
  generalize val_main_v101 (F := Ideal) x0 x2 x3 x4 x7 x8 x9 x10 x11 x12 x13 x14 x15 x16 = y
  unfold val_main_v106 val_main_v105
  generalize val_main_v104 (F := Ideal) x0 x2 x3 x4 x7 x8 x9 x10 x11 x12 x13 x14 x15 x16 = y'
  intro h hM
  pointwise
  simp only [h, hM, ← EReal.coe_sub, Ideal.exp_coe]

/-- The second result: the attention. -/
theorem v112_eq (b : Fin 8) (n : Fin 1024) (k : Fin 16) (j : Fin 512) :
    val_main_v112 (F := Ideal) x0 x2 x3 x4 x7 x8 x9 x10 x11 x12 x13 x14 x15 x16 (ix4 b n k j) = (I.attn b n k j : EReal) := by
  obtain ⟨M, h⟩ := v108_eq H b n j
  unfold val_main_v112 val_main_v111 val_main_v110 val_main_v109
  revert h
  generalize val_main_v108 (F := Ideal) x0 x2 x3 x4 x7 x8 x9 x10 x11 x12 x13 x14 x15 x16 = y
  intro h
  pointwise [val_main_cst_16, Ideal.ofBits_zero_f32]
  simp only [h, zero_add, sum_coe]
  rw [div_coe_coe _ _ (Finset.sum_pos (fun k _ => Real.exp_pos _) ⟨0, Finset.mem_univ _⟩).ne']
  exact congrArg Real.toEReal (softmax_shift (fun k => I.score b n k j) (I.g2b j) (Real.sqrt 512) M k)

/-- The attended values. -/
theorem v114_eq (b : Fin 8) (n : Fin 1024) (j : Fin 512) :
    val_main_v114 (F := Ideal) x0 x2 x3 x4 x7 x8 x9 x10 x11 x12 x13 x14 x15 x16 x17 (ix3 b n j) = (I.mix b n j : EReal) := by
  have h := v112_eq H
  have h' := v72_eq H
  have h'' := v85_eq H
  unfold val_main_v114 val_main_v113
  revert h h' h''
  generalize val_main_v112 (F := Ideal) x0 x2 x3 x4 x7 x8 x9 x10 x11 x12 x13 x14 x15 x16 = y
  generalize val_main_v72 (F := Ideal) x0 x2 x3 x4 x17 = y'
  generalize val_main_v85 (F := Ideal) x0 x11 x12 x13 x14 = y''
  intro h h' h''
  pointwise
  simp only [h, h', h'', ← EReal.coe_add, dot_coe]
  rfl

/-- The first result. -/
theorem v119_eq (b : Fin 8) (n : Fin 1024) (c : Fin 128) :
    val_main_v119 (F := Ideal) x0 x2 x3 x4 x5 x6 x7 x8 x9 x10 x11 x12 x13 x14 x15 x16 x17 (ix3 b n c) = I.out b n c := by
  have h := v114_eq H
  unfold val_main_v119 val_main_v118 val_main_v115
  revert h
  generalize val_main_v114 (F := Ideal) x0 x2 x3 x4 x7 x8 x9 x10 x11 x12 x13 x14 x15 x16 x17 = y
  intro h
  pointwise [val_main_v117, val_main_v116]
  simp only [h, H.args.w2, H.args.f, H.b6, add_zero]
  rfl

end Cert.Ref

end
-- ==== Proof.Pre.lean ====
module

public import proofs.«01_k».proof.Defs
public import proofs.«01_k».proof.Proof.Knn
public import proofs.«01_k».proof.Proof.RefValue
public import proofs.«01_k».proof.Proof.Gen.Pre_finite_unbiased

@[expose] public section

set_option maxRecDepth 16384

noncomputable section

namespace Cert.Pre

open Idealize.ShloMosaic Cert.Model Cert.Ref
open Cert.KernelIdeal

/-- A number whose absolute value compares below infinity is a real. -/
theorem coe_of_abs_lt {x : EReal} (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl
    simp at h'
  · rintro rfl
    simp at h'

/-- A number that compares equal to zero is zero. -/
theorem zero_of_eq {x : EReal} (h : Ideal.cmp .oeq x 0 = 1#1) : x = 0 := by
  by_contra hn
  simp [Ideal.cmp, hn] at h

variable {S S' : Shape} {dims : Fin S'.rank → Fin S.rank} {hb : S'.BroadcastsInDim S dims} {a : FVec Ideal S .f32}

/-- An array that the precondition compares below infinity holds reals. -/
theorem finite_read (h : cmpf .olt (Host.absf a) (broadcastInDim S dims hb (constant S' .f32 0x7F800000#32)) = fun _ => 1#1)
    (i : S.Idx) : a i = ((a i).toReal : EReal) := by
  have e := congrFun h i
  refine coe_of_abs_lt ?_
  rw [← Cert.Knn.ofBits_inf]
  exact e

/-- An array that the precondition compares equal to zero holds zeros. -/
theorem zero_read (h : cmpf .oeq a (broadcastInDim S dims hb (constant S' .f32 0x00000000#32)) = fun _ => 1#1)
    (i : S.Idx) : a i = 0 := by
  have e := congrFun h i
  refine zero_of_eq ?_
  rw [← Ideal.ofBits_zero_f32]
  exact e

/-- The numbers that the argument arrays of the kernel hold. -/
def inp (m : (ℓ : Loc nD τ sig) → Buf (Elt Ideal) ℓ) (c : Dev nD) : Inp where
  X b n e := EReal.toReal ((m ((c.tc : Thread nD τ).loc main_arg0)) (ix3 b n e) : EReal)
  f b n e := EReal.toReal ((m ((c.tc : Thread nD τ).loc main_arg2)) (ix3 b n e) : EReal)
  w1 i j := EReal.toReal ((m ((c.tc : Thread nD τ).loc main_arg3)) (ix2 i j) : EReal)
  w2 i j := ((m ((c.tc : Thread nD τ).loc main_arg5)) (ix2 i j) : EReal)
  g1 i j := EReal.toReal ((m ((c.tc : Thread nD τ).loc main_arg7)) (ix2 i j) : EReal)
  g2 i j := EReal.toReal ((m ((c.tc : Thread nD τ).loc main_arg9)) (ix2 i j) : EReal)
  g2b j := EReal.toReal ((m ((c.tc : Thread nD τ).loc main_arg10)) (ix1 j) : EReal)
  d1 i j := EReal.toReal ((m ((c.tc : Thread nD τ).loc main_arg11)) (ix2 i j) : EReal)
  d2 i j := EReal.toReal ((m ((c.tc : Thread nD τ).loc main_arg13)) (ix2 i j) : EReal)
  wq i j := EReal.toReal ((m ((c.tc : Thread nD τ).loc main_arg15)) (ix2 i j) : EReal)
  wk i j := EReal.toReal ((m ((c.tc : Thread nD τ).loc main_arg16)) (ix2 i j) : EReal)
  wv i j := EReal.toReal ((m ((c.tc : Thread nD τ).loc main_arg17)) (ix2 i j) : EReal)

/-- Under the precondition the argument arrays hold those numbers, and the dropped biases are zero. -/
theorem held [Cert.Pre_finite_unbiased.Facts] (m : (ℓ : Loc nD τ sig) → Buf (Elt Ideal) ℓ)
    (h : Cert.Pre_KernelIdeal_finite_unbiased m) (c : Dev nD) :
    Held (inp m c) (m ((c.tc : Thread nD τ).loc main_arg0)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) (m ((c.tc : Thread nD τ).loc main_arg12))
      (m ((c.tc : Thread nD τ).loc main_arg13)) (m ((c.tc : Thread nD τ).loc main_arg14)) (m ((c.tc : Thread nD τ).loc main_arg15)) (m ((c.tc : Thread nD τ).loc main_arg16))
      (m ((c.tc : Thread nD τ).loc main_arg17)) := by
  obtain ⟨h0, h2, h3, h7, h9, h10, h11, h13, h15, h16, h17, z4, z6, z8, z12, z14⟩ := h c
  exact {
    args := {
      X := fun b n e => finite_read h0 (ix3 b n e)
      f := fun b n e => finite_read h2 (ix3 b n e)
      w1 := fun i j => finite_read h3 (ix2 i j)
      w2 := fun _ _ => rfl
      g1 := fun i j => finite_read h7 (ix2 i j)
      g2 := fun i j => finite_read h9 (ix2 i j)
      d1 := fun i j => finite_read h11 (ix2 i j)
      d2 := fun i j => finite_read h13 (ix2 i j)
      wq := fun i j => finite_read h15 (ix2 i j)
      wk := fun i j => finite_read h16 (ix2 i j)
      wv := fun i j => finite_read h17 (ix2 i j) }
    b4 := fun j => zero_read z4 (ix1 j)
    b6 := fun j => zero_read z6 (ix1 j)
    b8 := fun j => zero_read z8 (ix1 j)
    b10 := fun j => finite_read h10 (ix1 j)
    b12 := fun j => zero_read z12 (ix1 j)
    b14 := fun j => zero_read z14 (ix1 j) }

end Cert.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_unbiased
public import proofs.«01_k».proof.Proof.KerRun
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends, with its arguments unchanged and no count pending. -/
theorem frame_reference : Cert.quiescent_ReferenceIdeal := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

/-- The kernel with its named constant is the printed kernel, that constant apart. -/
theorem preserves : Cert.preserves_Kernel_KernelIdeal :=
  IdealRules.named_const.statement Cert.KernelIdeal.κ "score_scale" .f32 0x3D8293EE#32
    ((((Real.sqrt 512) * (Real.log 2))⁻¹ : ℝ) : EReal) rfl

/-- On finite inputs with the dropped biases zero the kernel and the reference end with the same two results. -/
theorem algebraic : Cert.algebraic_KernelIdeal_ReferenceIdeal_pre_finite_unbiased := by
  intro m g m' g' hpre hag
  have H := fun c => Cert.Pre.held m hpre c
  refine ⟨fun c i => (Cert.Pre.inp m c).out (i 0) (i 1) (i 2),
    fun c i => ((Cert.Pre.inp m c).attn (i 0) (i 1) (i 2) (i 3) : EReal),
    Cert.Ker.run m g (Cert.Pre.inp m) fun c => (H c).args, ?_⟩
  refine (θ_run Cert.ReferenceIdeal.defs _ _).mono (fun r h c => ?_) (Cert.ReferenceIdeal.Value.run (F := Ideal) m' g')
  obtain ⟨h0, h1, hargs⟩ := h c
  obtain ⟨a0, a1, a2, a3, a4, a5, a6, a7, a8, a9, a10, a11, a12, a13, a14, a15, a16, a17⟩ := hag c
  have Hc := H c
  rw [← a0, ← a2, ← a3, ← a4, ← a5, ← a6, ← a7, ← a8, ← a9, ← a10, ← a11, ← a12, ← a13, ← a14, ← a15, ← a16, ← a17] at Hc
  refine ⟨h0.trans ((Cert.ReferenceIdeal.Read.val_main_v119_eq m' c).trans (funext fun i => ?_)),
    h1.trans ((Cert.ReferenceIdeal.Read.val_main_v112_eq m' c).trans (funext fun i => ?_)), hargs⟩
  · obtain ⟨b, n, e, rfl⟩ : ∃ b n e, i = ix3 b n e := ⟨_, _, _, eq_ix3 i⟩
    exact Cert.Ref.v119_eq Hc b n e
  · obtain ⟨b, n, k, j, rfl⟩ : ∃ b n k j, i = ix4 b n k j := ⟨_, _, _, _, eq_ix4 i⟩
    exact Cert.Ref.v112_eq Hc b n k j

/-- Every claim of this certificate. -/
theorem claim : Cert.Claim := ⟨Cert.Kernel.Gen.facts, Cert.KernelIdeal.Gen.facts, Cert.ReferenceIdeal.Gen.facts,
  Cert.Pre_finite_unbiased.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, preserves, algebraic⟩

end Cert.Proof

end
